-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x256x512 .f32) (main_arg1 : FVec F S512x256 .f32) (main_arg2 : FVec F S2x4096x4x64 .f32) (main_arg3 : FVec F S2x4096x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x4096x4x64 .f32 := Host.absf main_arg2
  let main_cst_2 : FVec F S_ .f32 := constant S_ .f32 0x7F800000#32
  let main_v10 : FVec F S2x4096x4x64 .f32 := broadcastInDim S2x4096x4x64 ![] bcast_S_S2x4096x4x64 main_cst_2
  let main_v11 : IVec S2x4096x4x64 1 := cmpf .olt main_v9 main_v10
  let main_c_3 : IVec S_ 1 := constantI S_ 1 1#1
  let main_v12 : IVec S_ 1 := (fun x v => Host.reduce IntOp.andi x v reducesTo_S2x4096x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x272x256 : Shape := ⟨3, ![2, 272, 256]⟩
abbrev S4x4x136x256 : Shape := ⟨4, ![4, 4, 136, 256]⟩
abbrev S4x4 : Shape := ⟨2, ![4, 4]⟩
abbrev S_ : Shape := ⟨0, ![]⟩
abbrev S256x256 : Shape := ⟨2, ![256, 256]⟩
abbrev S12x256 : Shape := ⟨2, ![12, 256]⟩
abbrev S1x12x256 : Shape := ⟨3, ![1, 12, 256]⟩
abbrev S1x256x512 : Shape := ⟨3, ![1, 256, 512]⟩
abbrev S256x64 : Shape := ⟨2, ![256, 64]⟩
abbrev S1x256x1x64 : Shape := ⟨4, ![1, 256, 1, 64]⟩
abbrev S256 : Shape := ⟨1, ![256]⟩
abbrev S1x1x256 : Shape := ⟨3, ![1, 1, 256]⟩
abbrev S1x256x64 : Shape := ⟨3, ![1, 256, 64]⟩
abbrev S1x136x256 : Shape := ⟨3, ![1, 136, 256]⟩
abbrev S136x256 : Shape := ⟨2, ![136, 256]⟩
abbrev S1x1 : Shape := ⟨2, ![1, 1]⟩
abbrev S1x1x136x256 : Shape := ⟨4, ![1, 1, 136, 256]⟩
abbrev S1x256x256 : Shape := ⟨3, ![1, 256, 256]⟩
abbrev S1x4x256 : Shape := ⟨3, ![1, 4, 256]⟩
abbrev S4x256 : Shape := ⟨2, ![4, 256]⟩
abbrev S256x4 : Shape := ⟨2, ![256, 4]⟩
abbrev S256x4x1 : Shape := ⟨3, ![256, 4, 1]⟩
abbrev S256x4x64 : Shape := ⟨3, ![256, 4, 64]⟩

abbrev nBuf : Space → Nat
  | .hbm => 6
  | .vmem => 9
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S2x272x256, .f32⟩
  | .local _ .vmem, ⟨7, _⟩ => ⟨S2x272x256, .bf16⟩
  | .local _ .vmem, ⟨8, _⟩ => ⟨S4x4x136x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_108 : BitVec 32 := 1#32
  let v178 : BitVec 32 := Scalar.xori v2 c1_i32_108
  let c1_i32_122 : BitVec 32 := 1#32
  let v185 : BitVec 32 := Scalar.muli v178 c1_i32_122
  let v186 : BitVec 32 := Scalar.addi c0_i32_123 v185
  v186.toNat
def k0_dev6 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_128 : BitVec 32 := 3#32
  let v195 : BitVec 32 := Scalar.xori v2 c3_i32_128
  let c1_i32_141 : BitVec 32 := 1#32
  let v202 : BitVec 32 := Scalar.muli v195 c1_i32_141
  let v203 : BitVec 32 := Scalar.addi c0_i32_142 v202
  v203.toNat
def k0_dev7 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_232 : BitVec 32 := 4#32
  let v297 : BitVec 32 := Scalar.xori v2 c4_i32_232
  let c1_i32_245 : BitVec 32 := 1#32
  let v304 : BitVec 32 := Scalar.muli v297 c1_i32_245
  let v305 : BitVec 32 := Scalar.addi c0_i32_246 v304
  v305.toNat
def k0_dev8 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_251 : BitVec 32 := 8#32
  let v314 : BitVec 32 := Scalar.xori v2 c8_i32_251
  let c1_i32_265 : BitVec 32 := 1#32
  let v321 : BitVec 32 := Scalar.muli v314 c1_i32_265
  let v322 : BitVec 32 := Scalar.addi c0_i32_266 v321
  v322.toNat
def k0_dev9 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_306 : BitVec 32 := 3#32
  let v354 : BitVec 32 := Scalar.xori v2 c3_i32_306
  let c1_i32_320 : BitVec 32 := 1#32
  let v361 : BitVec 32 := Scalar.muli v354 c1_i32_320
  let v362 : BitVec 32 := Scalar.addi c0_i32_321 v361
  v362.toNat
def k0_dev10 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_361 : BitVec 32 := 1#32
  let v394 : BitVec 32 := Scalar.xori v2 c1_i32_361
  let c1_i32_375 : BitVec 32 := 1#32
  let v401 : BitVec 32 := Scalar.muli v394 c1_i32_375
  let v402 : BitVec 32 := Scalar.addi c0_i32_376 v401
  v402.toNat
def k0_dev11 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_416 : BitVec 32 := 8#32
  let v434 : BitVec 32 := Scalar.xori v2 c8_i32_416
  let c1_i32_430 : BitVec 32 := 1#32
  let v441 : BitVec 32 := Scalar.muli v434 c1_i32_430
  let v442 : BitVec 32 := Scalar.addi c0_i32_431 v441
  v442.toNat
def k0_dev12 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_471 : BitVec 32 := 4#32
  let v474 : BitVec 32 := Scalar.xori v2 c4_i32_471
  let c1_i32_485 : BitVec 32 := 1#32
  let v481 : BitVec 32 := Scalar.muli v474 c1_i32_485
  let v482 : BitVec 32 := Scalar.addi c0_i32_486 v481
  v482.toNat
def k0_dev13 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_526 : BitVec 32 := 4#32
  let v514 : BitVec 32 := Scalar.xori v2 c4_i32_526
  let c1_i32_540 : BitVec 32 := 1#32
  let v521 : BitVec 32 := Scalar.muli v514 c1_i32_540
  let v522 : BitVec 32 := Scalar.addi c0_i32_541 v521
  v522.toNat
def k0_dev14 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_581 : BitVec 32 := 8#32
  let v554 : BitVec 32 := Scalar.xori v2 c8_i32_581
  let c1_i32_595 : BitVec 32 := 1#32
  let v561 : BitVec 32 := Scalar.muli v554 c1_i32_595
  let v562 : BitVec 32 := Scalar.addi c0_i32_596 v561
  v562.toNat
def k0_dev15 (d0 : Dev nD) : Nat :=
  let c0_i32_651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_636 : BitVec 32 := 1#32
  let v594 : BitVec 32 := Scalar.xori v2 c1_i32_636
  let c1_i32_650 : BitVec 32 := 1#32
  let v601 : BitVec 32 := Scalar.muli v594 c1_i32_650
  let v602 : BitVec 32 := Scalar.addi c0_i32_651 v601
  v602.toNat
def k0_dev16 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_691 : BitVec 32 := 3#32
  let v634 : BitVec 32 := Scalar.xori v2 c3_i32_691
  let c1_i32_705 : BitVec 32 := 1#32
  let v641 : BitVec 32 := Scalar.muli v634 c1_i32_705
  let v642 : BitVec 32 := Scalar.addi c0_i32_706 v641
  v642.toNat
def k0_dev17 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_746 : BitVec 32 := 8#32
  let v674 : BitVec 32 := Scalar.xori v2 c8_i32_746
  let c1_i32_760 : BitVec 32 := 1#32
  let v681 : BitVec 32 := Scalar.muli v674 c1_i32_760
  let v682 : BitVec 32 := Scalar.addi c0_i32_761 v681
  v682.toNat
def k0_dev18 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_801 : BitVec 32 := 4#32
  let v714 : BitVec 32 := Scalar.xori v2 c4_i32_801
  let c1_i32_815 : BitVec 32 := 1#32
  let v721 : BitVec 32 := Scalar.muli v714 c1_i32_815
  let v722 : BitVec 32 := Scalar.addi c0_i32_816 v721
  v722.toNat
def k0_dev19 (d0 : Dev nD) : Nat :=
  let c0_i32_871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_856 : BitVec 32 := 3#32
  let v754 : BitVec 32 := Scalar.xori v2 c3_i32_856
  let c1_i32_870 : BitVec 32 := 1#32
  let v761 : BitVec 32 := Scalar.muli v754 c1_i32_870
  let v762 : BitVec 32 := Scalar.addi c0_i32_871 v761
  v762.toNat
def k0_dev20 (d0 : Dev nD) : Nat :=
  let c0_i32_926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_911 : BitVec 32 := 1#32
  let v794 : BitVec 32 := Scalar.xori v2 c1_i32_911
  let c1_i32_925 : BitVec 32 := 1#32
  let v801 : BitVec 32 := Scalar.muli v794 c1_i32_925
  let v802 : BitVec 32 := Scalar.addi c0_i32_926 v801
  v802.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x4096x4x64 : Shape := ⟨4, ![2, 4096, 4, 64]⟩
abbrev S256x512 : Shape := ⟨2, ![256, 512]⟩
abbrev S2x256x256 : Shape := ⟨3, ![2, 256, 256]⟩
abbrev S2x256x4x64 : Shape := ⟨4, ![2, 256, 4, 64]⟩
abbrev S2x4x256x4096 : Shape := ⟨4, ![2, 4, 256, 4096]⟩
abbrev S_ : Shape := ⟨0, ![]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x1x256x4096 : Shape := ⟨4, ![1, 1, 256, 4096]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 102
  | .vmem => 2
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x4096x4x64, .f32⟩
  | .hbm, ⟨3, _⟩ => ⟨S2x4096x4x64, .f32⟩
  | .hbm, ⟨4, _⟩ => ⟨S256x512, .f32⟩
  | .hbm, ⟨5, _⟩ => ⟨S2x256x256, .f32⟩
  | .hbm, ⟨6, _⟩ => ⟨S2x256x4x64, .f32⟩
  | .hbm, ⟨7, _⟩ => ⟨S2x4x256x4096, .f32⟩
  | .hbm, ⟨8, _⟩ => ⟨S_, .f32⟩
  | .hbm, ⟨9, _⟩ => ⟨S2x4x256x4096, .f32⟩
  | .hbm, ⟨10, _⟩ => ⟨S2x4x256x4096, .f32⟩
  | .hbm, ⟨11, _⟩ => ⟨S2x4x256x4096, .f32⟩
  | .hbm, ⟨12, _⟩ => ⟨S256, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S1x4096, .i32⟩
  | .hbm, ⟨52, _⟩ => ⟨S256x4096, .i32⟩
  | .hbm, ⟨53, _⟩ => ⟨S256x4096, .i32⟩
  | .hbm, ⟨54, _⟩ => ⟨S256x4096, .i1⟩
  | .hbm, ⟨55, _⟩ => ⟨S_, .i32⟩
  | .hbm, ⟨56, _⟩ => ⟨S1x4096, .i32⟩
  | .hbm, ⟨57, _⟩ => ⟨S1x4096, .i1⟩
  | .hbm, ⟨58, _⟩ => ⟨S256x4096, .i1⟩
  | .hbm, ⟨59, _⟩ => ⟨S256x4096, .i1⟩
  | .hbm, ⟨60, _⟩ => ⟨S256x4096, .i32⟩
  | .hbm, ⟨61, _⟩ => ⟨S256x4096, .i32⟩
  | .hbm, ⟨62, _⟩ => ⟨S256x4096, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S256x4096, .i1⟩
  | .hbm, ⟨70, _⟩ => ⟨S1x1x256x4096, .i1⟩
  | .hbm, ⟨71, _⟩ => ⟨S2x4x256x4096, .i1⟩
  | .hbm, ⟨72, _⟩ => ⟨S2x4x256x4096, .f32⟩
  | .hbm, ⟨73, _⟩ => ⟨S_, .f32⟩
  | .hbm, ⟨74, _⟩ => ⟨S2x4x256, .f32⟩
  | .hbm, ⟨75, _⟩ => ⟨S2x4x256x1, .f32⟩
  | .hbm, ⟨76, _⟩ => ⟨S2x4x256x4096, .f32⟩
  | .hbm, ⟨77, _⟩ => ⟨S2x4x256x4096, .f32⟩
  | .hbm, ⟨78, _⟩ => ⟨S2x4x256x4096, .f32⟩
  | .hbm, ⟨79, _⟩ => ⟨S_, .i1⟩
  | .hbm, ⟨80, _⟩ => ⟨S256, .i1⟩
  | .hbm, ⟨81, _⟩ => ⟨S1x1x256x1, .i1⟩
  | .hbm, ⟨82, _⟩ => ⟨S_, .f32⟩
  | .hbm, ⟨83, _⟩ => ⟨S2x4x256, .f32⟩
  | .hbm, ⟨84, _⟩ => ⟨S2x4x256x1, .f32⟩
  | .hbm, ⟨85, _⟩ => ⟨S_, .f32⟩
  | .hbm, ⟨86, _⟩ => ⟨S_, .f32⟩
  | .hbm, ⟨87, _⟩ => ⟨S2x4x256x1, .i1⟩
  | .hbm, ⟨88, _⟩ => ⟨S2x4x256x1, .f32⟩
  | .hbm, ⟨89, _⟩ => ⟨S2x4x256x1, .f32⟩
  | .hbm, ⟨90, _⟩ => ⟨S2x4x256x4096, .f32⟩
  | .hbm, ⟨91, _⟩ => ⟨S2x4x256x4096, .f32⟩
  | .hbm, ⟨92, _⟩ => ⟨S1x1x256x1, .i1⟩
  | .hbm, ⟨93, _⟩ => ⟨S_, .f32⟩
  | .hbm, ⟨94, _⟩ => ⟨S_, .f32⟩
  | .hbm, ⟨95, _⟩ => ⟨S2x4x256x4096, .i1⟩
  | .hbm, ⟨96, _⟩ => ⟨S2x4x256x4096, .f32⟩
  | .hbm, ⟨97, _⟩ => ⟨S2x4x256x4096, .f32⟩
  | .hbm, ⟨98, _⟩ => ⟨S2x4x64x256, .f32⟩
  | .hbm, ⟨99, _⟩ => ⟨S2x256x4x64, .f32⟩
  | .hbm, ⟨100, _⟩ => ⟨S2x256x256, .f32⟩
  | .hbm, ⟨101, _⟩ => ⟨S2x256x512, .f32⟩
  | .local _ .vmem, ⟨0, _⟩ => ⟨S2x4x256x4096, .f32⟩
  | .local _ .vmem, ⟨1, _⟩ => ⟨S2x4x256x4096, .f32⟩
  | _, _ => ⟨S2x256x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_1 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_c_2 : Ref sig .tc := ⟨.hbm, 63, rfl⟩
abbrev main_v22 : Ref sig .tc := ⟨.hbm, 64, rfl⟩
abbrev main_v23 : Ref sig .tc := ⟨.hbm, 65, rfl⟩
abbrev main_c_3 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_call2_v0 : Ref sig .tc := ⟨.hbm, 71, rfl⟩
abbrev main_v28 : Ref sig .tc := ⟨.hbm, 72, rfl⟩
abbrev main_cst_4 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_c_5 : Ref sig .tc := ⟨.hbm, 79, rfl⟩
abbrev main_v34 : Ref sig .tc := ⟨.hbm, 80, rfl⟩
abbrev main_v35 : Ref sig .tc := ⟨.hbm, 81, rfl⟩
abbrev main_cst_6 : Ref sig .tc := ⟨.hbm, 82, rfl⟩
abbrev main_v36 : Ref sig .tc := ⟨.hbm, 83, rfl⟩
abbrev main_v37 : Ref sig .tc := ⟨.hbm, 84, rfl⟩
abbrev main_cst_7 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_8 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S2x4x256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Finite.lean ====
/-
# What the precondition gives

`finite` says of a device's activations, query weights and keys that every element's absolute value is below plus infinity: every
element is a real number.
-/
module

public import proofs.«01_k».proof.Pre_finite_KernelIdeal
public import Idealize.ShloMosaic.Lib.ReduceAll
public import Idealize.ShloMosaic.PureOps.Ideal

@[expose] public section

noncomputable section

namespace Cert.Attn

open Idealize.ShloMosaic

/-- An extended real whose absolute value compares below plus infinity is a real number. -/
theorem real_of_absf_lt (x : Ideal .f32)
    (h : FloatOps.cmpf .olt (FloatOps.hostAbsf x) (FloatOps.ofBits (F := Ideal) .f32 0x7F800000#32) = 1#1) :
    ((EReal.toReal x : ℝ) : EReal) = x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hn
    simp [Ideal.cmp, hn] at h
  obtain ⟨h1, h2⟩ := max_lt_iff.1 hlt
  exact EReal.coe_toReal h1.ne fun e => absurd h2 (by rw [show (x : EReal) = ⊥ from e]; simp)

instance : Subsingleton Cert.Pre_finite_KernelIdeal.S_.Idx := ⟨fun _ _ => funext fun b => b.elim0⟩

open Cert.Pre_finite_KernelIdeal Cert.Pre_finite_KernelIdeal.Facts

variable [Cert.Pre_finite_KernelIdeal.Facts]

/-- Where `finite` is one, every element of the first three arrays is a real number. -/
theorem real_of_finite {a0 : FVec Ideal S2x256x512 .f32} {a1 : FVec Ideal S512x256 .f32} {a2 a3 : FVec Ideal S2x256x4x64 .f32}
    {a4 : FVec Ideal S256x512 .f32} (h : Cert.Pre_finite_KernelIdeal.fn (F := Ideal) a0 a1 a2 a3 a4 = fun _ => 1#1) :
    (∀ i, ((EReal.toReal (a0 i) : ℝ) : EReal) = a0 i) ∧ (∀ i, ((EReal.toReal (a1 i) : ℝ) : EReal) = a1 i)
      ∧ (∀ i, ((EReal.toReal (a2 i) : ℝ) : EReal) = a2 i) := by
  have h := congrFun h (Shape.Idx.first h_S_)
  dsimp only [fn] at h
  obtain ⟨h, h2⟩ := IntOp.andi_eq_one.1 h
  obtain ⟨h0, h1⟩ := IntOp.andi_eq_one.1 h
  exact ⟨fun i => real_of_absf_lt _ (Host.reduce_andi_all _ _ _ _ _ h0 i), fun i => real_of_absf_lt _ (Host.reduce_andi_all _ _ _ _ _ h1 i),
    fun i => real_of_absf_lt _ (Host.reduce_andi_all _ _ _ _ _ h2 i)⟩

end Cert.Attn

end
-- ==== Proof.Steps.lean ====
/-
# The kernel as a sequence of named steps

The kernel body is one long list of memory operations. Read as the source writes it, it is

* a handshake: signal four peers' barrier semaphores;
* the partial attention of batch row 0 (`partialRow 0`), the barrier wait, two transfers started (`exchange 0 s`);
* the partial attention of batch row 1, two more transfers started;
* sixteen times: wait for a transfer, add what arrived (`receive t s`), start the next one;
* two final projections (`project b`).

This file writes these steps as functions of the step number `t` and the slice number `s`, and proves that the kernel is
their sequence (`body_eq`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.Sem

variable {F : FTy → Type} [FloatOps F]

/-! ## Buffers -/

abbrev xM : Memref sig .tc .vmem S2x256x512 .f32 := Memref.whole cc0_stg0_0
abbrev wqM : Memref sig .tc .vmem S512x256 .f32 := Memref.whole cc0_stg1_0
abbrev kM : Memref sig .tc .vmem S2x256x4x64 .f32 := Memref.whole cc0_stg2_0
abbrev vM : Memref sig .tc .vmem S2x256x4x64 .f32 := Memref.whole cc0_stg3_0
abbrev woM : Memref sig .tc .vmem S256x512 .f32 := Memref.whole cc0_stg4_0
abbrev outM : Memref sig .tc .vmem S2x256x512 .f32 := Memref.whole cc0_stg5_0
/-- the accumulator, -/
abbrev accM : Memref sig .tc .vmem S2x272x256 .f32 := Memref.whole cc0_scratch0
/-- the rounded copy a transfer reads, -/
abbrev sndM : Memref sig .tc .vmem S2x272x256 .bf16 := Memref.whole cc0_scratch1
/-- and the sixteen landing slots. -/
abbrev lndM : Memref sig .tc .vmem S4x4x136x256 .bf16 := Memref.whole cc0_scratch2

/-! ## Rectangles -/

theorem inbSlice (s : Fin 4) : ∀ a, (![s.val / 2, s.val % 2 * 136, 0] : Fin 3 → Nat) a + S1x136x256.size a ≤ S2x272x256.size a := by
  revert s; decide
theorem inbSlot (t s : Fin 4) : ∀ a, (![t.val, s.val, 0, 0] : Fin 4 → Nat) a + S1x1x136x256.size a ≤ S4x4x136x256.size a := by
  revert t s; decide
theorem inbSem (t s : Fin 4) : ∀ a, (![t.val, s.val] : Fin 2 → Nat) a + S1x1.size a ≤ S4x4.size a := by
  revert t s; decide

/-- Slice `s` of the accumulator: batch row `s / 2`, its upper or lower half of 136 rows. -/
abbrev rSlice (s : Fin 4) : Rect S2x272x256 := Rect.unit (s := S2x272x256) ![s.val / 2, s.val % 2 * 136, 0] S1x136x256.size (inbSlice s)
/-- Landing slot `(t, s)`. -/
abbrev rSlot (t s : Fin 4) : Rect S4x4x136x256 := Rect.unit (s := S4x4x136x256) ![t.val, s.val, 0, 0] S1x1x136x256.size (inbSlot t s)

abbrev sndSlice (s : Fin 4) : Memref sig .tc .vmem S136x256 .bf16 :=
  (sndM.slice (rSlice s) (fun _ => rfl)).squeeze S136x256 squeezes_S1x136x256_S136x256
abbrev lndSlot (t s : Fin 4) : Memref sig .tc .vmem S136x256 .bf16 :=
  (lndM.slice (rSlot t s) (fun _ => rfl)).squeeze S136x256 squeezes_S1x1x136x256_S136x256
abbrev sendSem (t s : Fin 4) : DmaSems sig S_ :=
  (cc0_scratch3.slice (Rect.unit (s := S4x4) ![t.val, s.val] S1x1.size (inbSem t s))).squeeze S_ squeezes_S1x1_S_
abbrev recvSem (t s : Fin 4) : DmaSems sig S_ :=
  (cc0_scratch4.slice (Rect.unit (s := S4x4) ![t.val, s.val] S1x1.size (inbSem t s))).squeeze S_ squeezes_S1x1_S_
abbrev barS : Sem sig := (SemArray.scalar (sig.barrier 0 rfl) : Sems sig S_).sem

theorem packedSlice (s : Fin 4) : (rSlice s).PackedRows (EltTy.bf16).packing :=
  match s with
  | 0 => packedbf16_S2x272x256_S1x136x256_0_0_0 | 1 => packedbf16_S2x272x256_S1x136x256_0_136_0
  | 2 => packedbf16_S2x272x256_S1x136x256_1_0_0 | 3 => packedbf16_S2x272x256_S1x136x256_1_136_0
theorem wordsSlice (s : Fin 4) : (rSlice s).WholeWords (EltTy.bf16).packing :=
  match s with
  | 0 => wordsbf16_S2x272x256_S1x136x256_0_0_0 | 1 => wordsbf16_S2x272x256_S1x136x256_0_136_0
  | 2 => wordsbf16_S2x272x256_S1x136x256_1_0_0 | 3 => wordsbf16_S2x272x256_S1x136x256_1_136_0
theorem wordsSlot (t s : Fin 4) : (rSlot t s).WholeWords (EltTy.bf16).packing := by revert t s; decide

theorem sndWords (s : Fin 4) : (sndSlice s).view.WordExact :=
  ((Memref.isWhole_whole cc0_scratch1).wordExact_slice rfl (rSlice s) (wordsSlice s)).reshape _ _
theorem lndWords (t s : Fin 4) : (lndSlot t s).view.WordExact :=
  ((Memref.isWhole_whole cc0_scratch2).wordExact_slice rfl (rSlot t s) (wordsSlot t s)).reshape _ _

theorem inbZero (b : Fin 2) : ∀ a, (![b.val, 260, 0] : Fin 3 → Nat) a + S1x12x256.size a ≤ S2x272x256.size a := by revert b; decide
theorem inbX (b : Fin 2) : ∀ a, (![b.val, 0, 0] : Fin 3 → Nat) a + S1x256x512.size a ≤ S2x256x512.size a := by revert b; decide
theorem inbWq : ∀ a, (![0, 0] : Fin 2 → Nat) a + S512x256.size a ≤ S512x256.size a := by decide
theorem inbWo : ∀ a, (![0, 0] : Fin 2 → Nat) a + S256x512.size a ≤ S256x512.size a := by decide
theorem inbKV (b : Fin 2) (h : Fin 4) : ∀ a, (![b.val, 0, h.val, 0] : Fin 4 → Nat) a + S1x256x1x64.size a ≤ S2x256x4x64.size a := by
  revert b h; decide
theorem inbSum (b : Fin 2) (h : Fin 4) : ∀ a, (![b.val, 256 + h.val, 0] : Fin 3 → Nat) a + S1x1x256.size a ≤ S2x272x256.size a := by
  revert b h; decide
theorem inbCtx (b : Fin 2) (h : Fin 4) : ∀ a, (![b.val, 0, 64 * h.val] : Fin 3 → Nat) a + S1x256x64.size a ≤ S2x272x256.size a := by
  revert b h; decide
theorem inbAll (b : Fin 2) : ∀ a, (![b.val, 0, 0] : Fin 3 → Nat) a + S1x256x256.size a ≤ S2x272x256.size a := by revert b; decide
theorem inbSums (b : Fin 2) : ∀ a, (![b.val, 256, 0] : Fin 3 → Nat) a + S1x4x256.size a ≤ S2x272x256.size a := by revert b; decide
theorem slicesHead (h : Fin 4) : S256x256.Slices ![0, 64 * h.val] S256x64 := by revert h; decide

/-- Rows 260..271 of batch row `b`: padding. -/
abbrev rZero (b : Fin 2) : Rect S2x272x256 := Rect.unit (s := S2x272x256) ![b.val, 260, 0] S1x12x256.size (inbZero b)
/-- Row `256 + h`: the row sums of head `h`. -/
abbrev rSum (b : Fin 2) (h : Fin 4) : Rect S2x272x256 := Rect.unit (s := S2x272x256) ![b.val, 256 + h.val, 0] S1x1x256.size (inbSum b h)
/-- Rows 0..255, columns `64 h ..`: the context of head `h`. -/
abbrev rCtx (b : Fin 2) (h : Fin 4) : Rect S2x272x256 := Rect.unit (s := S2x272x256) ![b.val, 0, 64 * h.val] S1x256x64.size (inbCtx b h)
/-- Rows 0..255: the context of every head. -/
abbrev rAll (b : Fin 2) : Rect S2x272x256 := Rect.unit (s := S2x272x256) ![b.val, 0, 0] S1x256x256.size (inbAll b)
/-- Rows 256..259: the row sums of every head. -/
abbrev rSums (b : Fin 2) : Rect S2x272x256 := Rect.unit (s := S2x272x256) ![b.val, 256, 0] S1x4x256.size (inbSums b)
abbrev rX (b : Fin 2) : Rect S2x256x512 := Rect.unit (s := S2x256x512) ![b.val, 0, 0] S1x256x512.size (inbX b)
abbrev rWq : Rect S512x256 := Rect.unit (s := S512x256) ![0, 0] S512x256.size inbWq
abbrev rWo : Rect S256x512 := Rect.unit (s := S256x512) ![0, 0] S256x512.size inbWo
abbrev rKV (b : Fin 2) (h : Fin 4) : Rect S2x256x4x64 := Rect.unit (s := S2x256x4x64) ![b.val, 0, h.val, 0] S1x256x1x64.size (inbKV b h)

/-! ## The values -/

/-- The mask of device `c`'s key block. -/
def maskAt (c : Dev nD) : IVec S256x256 1 :=
  let v2 := Scalar.remsi (Scalar.divsi (Dev.word c) 1#32) 16#32
  let v16 : IVec S256x256 32 := iota .tc S256x256 32 [0] iota_S256x256_d0_w32
  k0_pay9 (k0_pay7 v2 v16 64#32 k0_pay2 k0_pay3 k0_pay4) (Scalar.select (Scalar.cmpi .eq 3#32 0#32) 1#32 3#32)
    (k0_pay8 v2 v16 64#32 k0_pay2 k0_pay3 k0_pay4)

/-- The projected queries of one batch row. -/
def queries (x : Vec F S1x256x512 .f32) (w : Vec F S512x256 .f32) : FVec F S256x256 .f32 := k0_pay11 x w

/-- The masked exponentials of one head: `exp (q kᵀ / 8)` where the mask holds, `0` elsewhere. -/
def weights (h : Fin 4) (M : IVec S256x256 1) (Q : FVec F S256x256 .f32) (k : Vec F S1x256x1x64 .f32) : FVec F S256x256 .f32 :=
  select M
    (exp (mulf (matmul dot_S256x64_S256x64_S256x256_1_1_0_0_n_n none (extractStridedSlice S256x64 ![0, 64 * h.val] Q (slicesHead h))
        (shapeCast S256x64 k shapeCasts_S1x256x1x64_S256x64) (constant S256x256 .f32 0x00000000#32))
      (broadcast S256x256 (Scalar.ofBits .f32 0x3E000000#32))))
    (broadcast S256x256 (Scalar.ofBits .f32 0x00000000#32))

/-- Their row sums. -/
def rowSums (W : FVec F S256x256 .f32) : FVec F S1x1x256 .f32 :=
  shapeCast S1x1x256 (multiReduction .add [1] S256 W 0x00000000#32 reduces_S256x256_S256 (.inl rfl) rfl) shapeCasts_S256_S1x1x256

/-- Their product with one head's values. -/
def context (W : FVec F S256x256 .f32) (v : Vec F S1x256x1x64 .f32) : FVec F S1x256x64 .f32 := k0_pay15 W v

/-- What a transfer sends of a slice: its rounding. -/
def rounded (a : Vec F S1x136x256 .f32) : FVec F S1x136x256 .bf16 := k0_pay27 a

/-- A slice with what arrived added. -/
def added (a : Vec F S1x136x256 .f32) (r : Vec F S1x1x136x256 .bf16) : FVec F S1x136x256 .f32 := k0_pay46 a r

/-- The result of one batch row: the context over the row sums, projected. -/
def projected (a : Vec F S1x256x256 .f32) (l : Vec F S1x4x256 .f32) (w : Vec F S256x512 .f32) : FVec F S1x256x512 .f32 := k0_pay72 a l w

/-! ## The steps -/

/-- Which of the four partner masks `1, 3, 4, 8` slice `s` uses at step `t`. -/
def which (t s : Fin 4) : Fin 4 :=
  match t, s with
  | 0, 0 => 0 | 0, 1 => 1 | 0, 2 => 2 | 0, 3 => 3
  | 1, 0 => 1 | 1, 1 => 0 | 1, 2 => 3 | 1, 3 => 2
  | 2, 0 => 2 | 2, 1 => 3 | 2, 2 => 0 | 2, 3 => 1
  | 3, 0 => 3 | 3, 1 => 2 | 3, 2 => 1 | 3, 3 => 0

/-- The partner of device `c` under mask number `j`, as the kernel computes it. -/
def partner (j : Fin 4) (c : Dev nD) : Dev nD :=
  match j with
  | 0 => ⟨k0_dev1 c, k0_dev1_lt c⟩ | 1 => ⟨k0_dev2 c, k0_dev2_lt c⟩
  | 2 => ⟨k0_dev3 c, k0_dev3_lt c⟩ | 3 => ⟨k0_dev4 c, k0_dev4_lt c⟩

/-- One program of the kernel's core. -/
abbrev P (F : FTy → Type) [FloatOps F] (α : Type) : Type 1 := Prog (TpuEff nD τ sig (Elt F) Λ₀ .tc) α

/-- Start the transfer of slice `s` at step `t`. -/
def exchange (c : Dev nD) (t s : Fin 4) : P F PUnit := do
  let a : Vec F S1x136x256 .f32 ← Prog.lift (.load accM (rSlice s).toLoadRect (View.loadsAt_vmem h_S1x136x256))
  let _ : Vec F S1x136x256 .bf16 ← Prog.lift (.load sndM (rSlice s).toLoadRect (View.loadsAt_vmem h_S1x136x256))
  Prog.lift (.store sndM (rSlice s) (rounded a) Finset.univ
    (View.stores_vmem h_S1x136x256 ((Memref.isWhole_whole cc0_scratch1).storeExact_slice rfl _ (packedSlice s)) (fun _ => rfl)) (.inl rfl))
  Prog.lift (.enqueueDma (sndSlice s) (.remote (Dev.tc (partner (which t s) c)) (lndSlot t s) (.dma (sendSem t s).sem)) (.dma (recvSem t s).sem)
    (sndWords s) (lndWords t s) ⟨⟨rfl, Or.inl rfl⟩, trivial⟩)

/-- Wait for the transfer of slice `s` at step `t` both ways, and add what arrived. -/
def receive (t s : Fin 4) : P F PUnit := do
  Prog.lift (.waitDma2 (sendSem t s).sem (lndSlot t s) (sndSlice s) (lndWords t s) (sndWords s))
  Prog.lift (.waitDma2 (recvSem t s).sem (sndSlice s) (lndSlot t s) (sndWords s) (lndWords t s))
  let a : Vec F S1x136x256 .f32 ← Prog.lift (.load accM (rSlice s).toLoadRect (View.loadsAt_vmem h_S1x136x256))
  let r : Vec F S1x1x136x256 .bf16 ← Prog.lift (.load lndM (rSlot t s).toLoadRect (View.loadsAt_vmem h_S1x1x136x256))
  let _ : Vec F S1x136x256 .f32 ← Prog.lift (.load accM (rSlice s).toLoadRect (View.loadsAt_vmem h_S1x136x256))
  Prog.lift (.store accM (rSlice s) (added a r) Finset.univ (View.stores_vmem_bits_univ h_S1x136x256 rfl) (.inl rfl))

/-- The partial attention of one head of batch row `b`. -/
def head (c : Dev nD) (b : Fin 2) (Q : FVec F S256x256 .f32) (h : Fin 4) : P F PUnit := do
  let k : Vec F S1x256x1x64 .f32 ← Prog.lift (.load kM (rKV b h).toLoadRect (View.loadsAt_vmem h_S1x256x1x64))
  let _ : Vec F S1x1x256 .f32 ← Prog.lift (.load accM (rSum b h).toLoadRect (View.loadsAt_vmem h_S1x1x256))
  Prog.lift (.store accM (rSum b h) (rowSums (weights h (maskAt c) Q k)) Finset.univ (View.stores_vmem_bits_univ h_S1x1x256 rfl) (.inl rfl))
  let v : Vec F S1x256x1x64 .f32 ← Prog.lift (.load vM (rKV b h).toLoadRect (View.loadsAt_vmem h_S1x256x1x64))
  let _ : Vec F S1x256x64 .f32 ← Prog.lift (.load accM (rCtx b h).toLoadRect (View.loadsAt_vmem h_S1x256x64))
  Prog.lift (.store accM (rCtx b h) (context (weights h (maskAt c) Q k) v) Finset.univ (View.stores_vmem_bits_univ h_S1x256x64 rfl) (.inl rfl))

/-- The partial attention of batch row `b`. -/
def partialRow (c : Dev nD) (b : Fin 2) : P F PUnit := do
  let _ : Vec F S1x12x256 .f32 ← Prog.lift (.load accM (rZero b).toLoadRect (View.loadsAt_vmem h_S1x12x256))
  Prog.lift (.store accM (rZero b) (k0_pay10 (F := F)) Finset.univ (View.stores_vmem_bits_univ h_S1x12x256 rfl) (.inl rfl))
  let x : Vec F S1x256x512 .f32 ← Prog.lift (.load xM (rX b).toLoadRect (View.loadsAt_vmem h_S1x256x512))
  let w : Vec F S512x256 .f32 ← Prog.lift (.load wqM rWq.toLoadRect (View.loadsAt_vmem h_S512x256))
  head c b (queries x w) 0
  head c b (queries x w) 1
  head c b (queries x w) 2
  head c b (queries x w) 3

/-- The final projection of batch row `b`. -/
def project (b : Fin 2) : P F PUnit := do
  let a : Vec F S1x256x256 .f32 ← Prog.lift (.load accM (rAll b).toLoadRect (View.loadsAt_vmem h_S1x256x256))
  let l : Vec F S1x4x256 .f32 ← Prog.lift (.load accM (rSums b).toLoadRect (View.loadsAt_vmem h_S1x4x256))
  let w : Vec F S256x512 .f32 ← Prog.lift (.load woM rWo.toLoadRect (View.loadsAt_vmem h_S256x512))
  let _ : Vec F S1x256x512 .f32 ← Prog.lift (.load outM (rX b).toLoadRect (View.loadsAt_vmem h_S1x256x512))
  Prog.lift (.store outM (rX b) (projected a l w) Finset.univ (View.stores_vmem_bits_univ h_S1x256x512 rfl) (.inl rfl))

/-- One step of all four slices, the next step's transfers started as each arrives. -/
def round (c : Dev nD) (t t' : Fin 4) : P F PUnit := do
  receive t 0; exchange c t' 0
  receive t 1; exchange c t' 1
  receive t 2; exchange c t' 2
  receive t 3; exchange c t' 3

/-- The last step: no further transfer; each batch row is projected once both of its slices are complete. -/
def lastRound : P F PUnit := do
  receive 3 0; receive 3 1; project 0
  receive 3 2; receive 3 3; project 1

/-- Announce that this device's landing slots may be written. -/
def announce (c : Dev nD) : P F PUnit := do
  semSignalWord (partner 0 c) barS 1#32
  semSignalWord (partner 1 c) barS 1#32
  semSignalWord (partner 2 c) barS 1#32
  semSignalWord (partner 3 c) barS 1#32

/-- The whole kernel. -/
def prog : P F PUnit := do
  let c : Dev nD ← Prog.lift .deviceId
  announce c
  partialRow c 0
  semWaitWord barS 4#32
  exchange c 0 0; exchange c 0 1
  partialRow c 1
  exchange c 0 2; exchange c 0 3
  round c 0 1
  round c 1 2
  round c 2 3
  lastRound

/-- The kernel's body on its buffers. -/
abbrev body : P F PUnit :=
  cc0_body xM (Memref.isWhole_whole _) wqM (Memref.isWhole_whole _) kM (Memref.isWhole_whole _) vM (Memref.isWhole_whole _)
    woM (Memref.isWhole_whole _) outM (Memref.isWhole_whole _) accM (Memref.isWhole_whole _) sndM (Memref.isWhole_whole _)
    lndM (Memref.isWhole_whole _) cc0_scratch3 cc0_scratch4

set_option maxRecDepth 65536 in
/-- The kernel is the sequence of the steps. -/
theorem body_eq : body (F := F) = prog := by
  unfold body
  rw [cc0_body_eq_skeleton]
  rfl

end Cert.Attn

end
-- ==== Proof.Contents.lean ====
/-
# What the buffers hold

The accumulator after the partial attention of a batch row (`rowOf`), the partial attention of a device (`part`), and what
each of its four slices holds after `t` exchange steps (`A t s c`): a device's slice with its partner's rounded slice added.
-/
module

public import proofs.«01_k».proof.Proof.Steps
public import Idealize.ShloMosaic.Lib.Pointwise

@[expose] public section

noncomputable section

namespace Cert.Attn

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ)

/-! ## The staged inputs -/

def xIn (c : Dev nD) : (cc0_stg0_0 : Ref sig .tc).ty.Contents (Elt F) := (win0_0.blk (0 : Fin 1)).view.read (Elt F) (m ((c : Thread nD τ).loc main_arg0))
def wqIn (c : Dev nD) : (cc0_stg1_0 : Ref sig .tc).ty.Contents (Elt F) := (win0_1.blk (0 : Fin 1)).view.read (Elt F) (m ((c : Thread nD τ).loc main_arg1))
def kIn (c : Dev nD) : (cc0_stg2_0 : Ref sig .tc).ty.Contents (Elt F) := (win0_2.blk (0 : Fin 1)).view.read (Elt F) (m ((c : Thread nD τ).loc main_arg2))
def vIn (c : Dev nD) : (cc0_stg3_0 : Ref sig .tc).ty.Contents (Elt F) := (win0_3.blk (0 : Fin 1)).view.read (Elt F) (m ((c : Thread nD τ).loc main_arg3))
def woIn (c : Dev nD) : (cc0_stg4_0 : Ref sig .tc).ty.Contents (Elt F) := (win0_4.blk (0 : Fin 1)).view.read (Elt F) (m ((c : Thread nD τ).loc main_arg4))

/-! ## The partial attention -/

/-- Contents of the accumulator. -/
abbrev Acc (F : FTy → Type) [FloatOps F] : Type := (cc0_scratch0 : Ref sig .tc).ty.Contents (Elt F)

/-- The queries of batch row `b`. -/
def qAt (c : Dev nD) (b : Fin 2) : FVec F S256x256 .f32 :=
  queries ((xM.access (rX b)).read (Elt F) (xIn m c)) ((wqM.access rWq).read (Elt F) (wqIn m c))
/-- The masked exponentials of batch row `b` and head `h` against device `c`'s keys. -/
def wAt (c : Dev nD) (b : Fin 2) (h : Fin 4) : FVec F S256x256 .f32 :=
  weights h (maskAt c) (qAt m c b) ((kM.access (rKV b h)).read (Elt F) (kIn m c))
/-- The accumulator with head `h`'s row sums, -/
def sumOf (c : Dev nD) (b : Fin 2) (h : Fin 4) (f : Acc F) : Acc F :=
  (accM.access (rSum b h)).write (Elt F) f (rowSums (wAt m c b h)) Finset.univ
/-- and with its row sums and its context stored. -/
def headOf (c : Dev nD) (b : Fin 2) (h : Fin 4) (f : Acc F) : Acc F :=
  (accM.access (rCtx b h)).write (Elt F) (sumOf m c b h f) (context (wAt m c b h) ((vM.access (rKV b h)).read (Elt F) (vIn m c))) Finset.univ
/-- The accumulator with batch row `b`'s padding cleared, -/
def clearOf (b : Fin 2) (f : Acc F) : Acc F := (accM.access (rZero b)).write (Elt F) f (k0_pay10 (F := F)) Finset.univ
/-- and with the whole of batch row `b` computed. -/
def rowOf (c : Dev nD) (b : Fin 2) (f : Acc F) : Acc F :=
  headOf m c b 3 (headOf m c b 2 (headOf m c b 1 (headOf m c b 0 (clearOf b f))))

omit [FloatOps F] in
/-- The elements a store through a rectangle of the accumulator writes are the rectangle's. -/
theorem mem_acc (r : Rect S2x272x256) (i : S2x272x256.Idx) : i ∈ (accM.access r).setOn Finset.univ ↔ i ∈ r.set := by
  rw [View.setOn_univ]
  show i ∈ ((View.whole cc0_scratch0).slice r).set ↔ _
  rw [View.set_slice_whole]

theorem headOf_congr (c : Dev nD) (b : Fin 2) (h : Fin 4) {f g : Acc F} {i : S2x272x256.Idx}
    (hfg : i ∉ (rSum b h).set → i ∉ (rCtx b h).set → f i = g i) : headOf m c b h f i = headOf m c b h g i := by
  unfold headOf sumOf
  refine View.write_congr (fun _ _ _ => rfl) fun h1 => View.write_congr (fun _ _ _ => rfl) fun h2 => ?_
  exact hfg (fun h => h2 ((mem_acc _ _).mpr h)) (fun h => h1 ((mem_acc _ _).mpr h))

theorem clearOf_congr (b : Fin 2) {f g : Acc F} {i : S2x272x256.Idx}
    (hfg : i ∉ (rZero b).set → f i = g i) : clearOf b f i = clearOf b g i := by
  unfold clearOf
  exact View.write_congr (fun _ _ _ => rfl) fun h1 => hfg (fun h => h1 ((mem_acc _ _).mpr h))

theorem headOf_off (c : Dev nD) (b : Fin 2) (h : Fin 4) (f : Acc F) {i : S2x272x256.Idx} (h1 : i ∉ (rSum b h).set) (h2 : i ∉ (rCtx b h).set) :
    headOf m c b h f i = f i := by
  unfold headOf sumOf
  rw [View.write_of_not_mem _ _ _ (fun h => h2 ((mem_acc _ _).mp h)), View.write_of_not_mem _ _ _ (fun h => h1 ((mem_acc _ _).mp h))]

theorem clearOf_off (b : Fin 2) (f : Acc F) {i : S2x272x256.Idx} (h1 : i ∉ (rZero b).set) : clearOf b f i = f i := by
  unfold clearOf
  rw [View.write_of_not_mem _ _ _ (fun h => h1 ((mem_acc _ _).mp h))]

theorem mem_rSum (b : Fin 2) (h : Fin 4) (i : S2x272x256.Idx) : i ∈ (rSum b h).set ↔ (i 0).val = b.val ∧ (i 1).val = 256 + h.val := by
  have h2 := (i 2).isLt
  simp only [Rect.mem_set_unit, Fin.forall_fin_succ, Fin.forall_fin_zero, and_true]
  change _ < 256 at h2
  change (b.val ≤ (i 0).val ∧ (i 0).val < b.val + 1) ∧ (256 + h.val ≤ (i 1).val ∧ (i 1).val < 256 + h.val + 1) ∧ (0 ≤ (i 2).val ∧ (i 2).val < 0 + 256) ↔ _
  omega
theorem mem_rCtx (b : Fin 2) (h : Fin 4) (i : S2x272x256.Idx) :
    i ∈ (rCtx b h).set ↔ (i 0).val = b.val ∧ (i 1).val < 256 ∧ (i 2).val / 64 = h.val := by
  simp only [Rect.mem_set_unit, Fin.forall_fin_succ, Fin.forall_fin_zero, and_true]
  change (b.val ≤ (i 0).val ∧ (i 0).val < b.val + 1) ∧ (0 ≤ (i 1).val ∧ (i 1).val < 0 + 256) ∧ (64 * h.val ≤ (i 2).val ∧ (i 2).val < 64 * h.val + 64) ↔ _
  omega
theorem mem_rZero (b : Fin 2) (i : S2x272x256.Idx) : i ∈ (rZero b).set ↔ (i 0).val = b.val ∧ 260 ≤ (i 1).val := by
  have h1 := (i 1).isLt
  have h2 := (i 2).isLt
  simp only [Rect.mem_set_unit, Fin.forall_fin_succ, Fin.forall_fin_zero, and_true]
  change _ < 272 at h1
  change _ < 256 at h2
  change (b.val ≤ (i 0).val ∧ (i 0).val < b.val + 1) ∧ (260 ≤ (i 1).val ∧ (i 1).val < 260 + 12) ∧ (0 ≤ (i 2).val ∧ (i 2).val < 0 + 256) ↔ _
  omega

/-- Every element of batch row `b` is stored by `rowOf`: nothing of the earlier contents is left there. -/
theorem rowOf_on (c : Dev nD) (b : Fin 2) (f g : Acc F) {i : S2x272x256.Idx} (hi : (i 0).val = b.val) : rowOf m c b f i = rowOf m c b g i := by
  unfold rowOf
  refine headOf_congr m c b 3 fun a3 b3 => headOf_congr m c b 2 fun a2 b2 => headOf_congr m c b 1 fun a1 b1 => headOf_congr m c b 0 fun a0 b0 =>
    clearOf_congr b fun z => ?_
  have h2 := (i 2).isLt
  change _ < 256 at h2
  simp only [mem_rSum, mem_rCtx, mem_rZero, hi, true_and] at a0 b0 a1 b1 a2 b2 a3 b3 z
  simp only [Fin.val_zero, Fin.val_one, show ((2 : Fin 4).val) = 2 from rfl, show ((3 : Fin 4).val) = 3 from rfl] at a0 b0 a1 b1 a2 b2 a3 b3
  omega

/-- The other batch row is untouched. -/
theorem rowOf_off (c : Dev nD) (b : Fin 2) (f : Acc F) {i : S2x272x256.Idx} (hi : (i 0).val ≠ b.val) : rowOf m c b f i = f i := by
  unfold rowOf
  rw [headOf_off, headOf_off, headOf_off, headOf_off, clearOf_off] <;> simp only [mem_rSum, mem_rCtx, mem_rZero, hi, false_and, not_false_eq_true]

/-- Some contents, to start from. -/
def blank : Acc F := fun _ => FloatOps.ofBits .f32 0x00000000#32

/-- The partial attention of device `c`: both batch rows. -/
def part (c : Dev nD) : Acc F := rowOf m c 1 (rowOf m c 0 blank)

/-! ## Slices -/

/-- Slice `s` of the accumulator. -/
def sl (s : Fin 4) (f : Acc F) : Vec F S1x136x256 .f32 := (accM.access (rSlice s)).read (Elt F) f

/-- The elements of slice `s`. -/
theorem mem_rSlice (s : Fin 4) (i : S2x272x256.Idx) : i ∈ (rSlice s).set ↔ 2 * (i 0).val + (i 1).val / 136 = s.val := by
  have h1 := (i 1).isLt
  have h2 := (i 2).isLt
  simp only [Rect.mem_set_unit, Fin.forall_fin_succ, Fin.forall_fin_zero, and_true]
  change _ < 272 at h1
  change _ < 256 at h2
  change (s.val / 2 ≤ (i 0).val ∧ (i 0).val < s.val / 2 + 1) ∧ (s.val % 2 * 136 ≤ (i 1).val ∧ (i 1).val < s.val % 2 * 136 + 136) ∧ (0 ≤ (i 2).val ∧ (i 2).val < 0 + 256) ↔ _
  omega

omit [FloatOps F] in
theorem set_acc (r : Rect S2x272x256) : (accM.access r).set = r.set := by
  show ((View.whole cc0_scratch0).slice r).set = _
  rw [View.set_slice_whole]

theorem sl_congr (s : Fin 4) {f g : Acc F} (h : ∀ i : S2x272x256.Idx, 2 * (i 0).val + (i 1).val / 136 = s.val → f i = g i) : sl s f = sl s g := by
  unfold sl
  refine View.read_congr fun i hi => h i ?_
  rw [set_acc] at hi
  exact (mem_rSlice s i).mp hi

/-- The first two slices are those of `part` once row 0 is computed, -/
theorem sl_row0 (c : Dev nD) (f : Acc F) (s : Fin 4) (hs : s.val < 2) : sl s (rowOf m c 0 f) = sl s (part m c) := by
  refine sl_congr s fun i hi => ?_
  unfold part
  have h0 : (i 0).val = (0 : Fin 2).val := by simp only [Fin.val_zero]; omega
  rw [rowOf_off m c 1 _ (by rw [h0]; decide)]
  exact rowOf_on m c 0 _ _ h0

/-- and all four once row 1 is too. -/
theorem sl_row1 (c : Dev nD) (f : Acc F) (s : Fin 4) : sl s (rowOf m c 1 (rowOf m c 0 f)) = sl s (part m c) := by
  refine sl_congr s fun i hi => ?_
  unfold part
  by_cases h1 : (i 0).val = (1 : Fin 2).val
  · exact rowOf_on m c 1 _ _ h1
  · rw [rowOf_off m c 1 _ h1, rowOf_off m c 1 _ h1]
    refine rowOf_on m c 0 _ _ ?_
    have := (i 0).isLt
    change _ < 2 at this
    simp only [Fin.val_one, Fin.val_zero] at h1 ⊢
    omega

/-- A store on slice `s` sets that slice and no other. -/
theorem sl_write (s s' : Fin 4) (f : Acc F) (w : Vec F S1x136x256 .f32) :
    sl s' ((accM.access (rSlice s)).write (Elt F) f w Finset.univ) = Function.update (fun s' => sl s' f) s w s' := by
  by_cases h : s' = s
  · subst h
    rw [Function.update_self]
    exact View.read_write_univ _ _
  · rw [Function.update_of_ne h]
    refine View.read_congr fun i hi => View.write_of_not_mem _ _ _ fun hm => h ?_
    rw [set_acc] at hi
    have h1 := (mem_rSlice s' i).mp hi
    have h2 := (mem_rSlice s i).mp ((mem_acc _ _).mp hm)
    exact Fin.ext (h1.symm.trans h2)

/-- The accumulator whose slices are `v`. -/
def joined (v : Fin 4 → Vec F S1x136x256 .f32) : Acc F := fun (i : S2x272x256.Idx) =>
  v ⟨2 * (i 0).val + (i 1).val / 136, by have h0 : (i 0).val < 2 := (i 0).isLt; have h1 : (i 1).val < 272 := (i 1).isLt; omega⟩
    (ix3 (⟨0, Nat.one_pos⟩ : Fin 1) (⟨(i 1).val % 136, Nat.mod_lt _ (by decide)⟩ : Fin 136) (⟨(i 2).val, (i 2).isLt⟩ : Fin 256))

/-- An accumulator is the join of its slices. -/
theorem joined_sl (f : Acc F) : joined (fun s => sl s f) = f := by
  funext i
  change S2x272x256.Idx at i
  show f _ = f i
  congr 1
  funext a
  have h0 : (i 0).val < 2 := (i 0).isLt
  have h1 : (i 1).val < 272 := (i 1).isLt
  apply Fin.ext
  fin_cases a
  · show (2 * (i 0).val + (i 1).val / 136) / 2 + 1 * 0 = (i 0).val; omega
  · show (2 * (i 0).val + (i 1).val / 136) % 2 * 136 + 1 * ((i 1).val % 136) = (i 1).val; omega
  · show 0 + 1 * (i 2).val = (i 2).val; omega

/-! ## What arrives, and the slices after `t` steps -/

/-- What the transfer of a slice `a` leaves in a landing slot: `a` rounded, its elements in the same order. -/
def arrived (a : Vec F S1x136x256 .f32) : Vec F S1x1x136x256 .bf16 := fun i =>
  rounded a (ix3 (⟨0, Nat.one_pos⟩ : Fin 1) (⟨(i 2).val, (i 2).isLt⟩ : Fin 136) (⟨(i 3).val, (i 3).isLt⟩ : Fin 256))

/-- Slice `s` of device `c`'s accumulator after `t` steps. -/
def A : ℕ → Fin 4 → Dev nD → Vec F S1x136x256 .f32
  | 0, s, c => sl s (part m c)
  | t + 1, s, c => added (A t s c) (arrived (A t s (partner (which (Fin.ofNat 4 t) s) c)))

theorem A_succ (t s : Fin 4) (c : Dev nD) :
    A m (t.val + 1) s c = added (A m t.val s c) (arrived (A m t.val s (partner (which t s) c))) := by
  have : Fin.ofNat 4 t.val = t := Fin.ext (Nat.mod_eq_of_lt t.isLt)
  show added _ (arrived (A m t.val s (partner (which (Fin.ofNat 4 t.val) s) c))) = _
  rw [this]

/-- The accumulator after the four steps. -/
def total (c : Dev nD) : Acc F := joined fun s => A m 4 s c

/-- The result of batch row `b`, from an accumulator. -/
def outRow (c : Dev nD) (b : Fin 2) (f : Acc F) : FVec F S1x256x512 .f32 :=
  projected ((accM.access (rAll b)).read (Elt F) f) ((accM.access (rSums b)).read (Elt F) f) ((woM.access rWo).read (Elt F) (woIn m c))

/-- It reads batch row `b` only: two of the slices. -/
theorem outRow_congr (c : Dev nD) (b : Fin 2) {f g : Acc F} (h : ∀ s : Fin 4, s.val / 2 = b.val → sl s f = sl s g) : outRow m c b f = outRow m c b g := by
  have key : ∀ i : S2x272x256.Idx, (i 0).val = b.val → f i = g i := fun i hi => by
    have h1 : (i 1).val < 272 := (i 1).isLt
    have h0 : (i 0).val < 2 := (i 0).isLt
    rw [← joined_sl f, ← joined_sl g]
    unfold joined
    refine congrFun (h _ ?_) _
    show (2 * (i 0).val + (i 1).val / 136) / 2 = b.val
    omega
  unfold outRow
  congr 1
  · refine View.read_congr fun i hi => key i ?_
    rw [set_acc, Rect.mem_set_unit] at hi
    have := hi 0
    change b.val ≤ (i 0).val ∧ (i 0).val < b.val + 1 at this
    omega
  · refine View.read_congr fun i hi => key i ?_
    rw [set_acc, Rect.mem_set_unit] at hi
    have := hi 0
    change b.val ≤ (i 0).val ∧ (i 0).val < b.val + 1 at this
    omega

theorem sl_joined (v : Fin 4 → Vec F S1x136x256 .f32) (s : Fin 4) : sl s (joined v) = v s := by
  funext j
  change S1x136x256.Idx at j
  show joined v _ = v s j
  have h0 : (j 0).val < 1 := (j 0).isLt
  have h1 : (j 1).val < 136 := (j 1).isLt
  unfold joined
  congr 1
  · congr 1
    show 2 * (s.val / 2 + 1 * (j 0).val) + (s.val % 2 * 136 + 1 * (j 1).val) / 136 = s.val
    omega
  · funext a
    apply Fin.ext
    fin_cases a
    · show 0 = (j 0).val; omega
    · show (s.val % 2 * 136 + 1 * (j 1).val) % 136 = (j 1).val; omega
    · show 0 + 1 * (j 2).val = (j 2).val; omega

/-! ## The result -/

/-- The result's staging buffer with row `b` stored. -/
def storeRow (c : Dev nD) (b : Fin 2) (f : Acc F) (o : (cc0_stg5_0 : Ref sig .tc).ty.Contents (Elt F)) : (cc0_stg5_0 : Ref sig .tc).ty.Contents (Elt F) :=
  (outM.access (rX b)).write (Elt F) o (outRow m c b f) Finset.univ

/-- What device `c`'s kernel leaves in the result's staging buffer. -/
def outAt (c : Dev nD) : (cc0_stg5_0 : Ref sig .tc).ty.Contents (Elt F) :=
  storeRow m c 1 (total m c) (storeRow m c 0 (total m c) fun _ => FloatOps.ofBits .f32 0x00000000#32)

omit [FloatOps F] in
theorem mem_rX (b : Fin 2) (i : S2x256x512.Idx) : i ∈ (rX b).set ↔ (i 0).val = b.val := by
  have h1 := (i 1).isLt
  have h2 := (i 2).isLt
  simp only [Rect.mem_set_unit, Fin.forall_fin_succ, Fin.forall_fin_zero, and_true]
  change _ < 256 at h1
  change _ < 512 at h2
  change (b.val ≤ (i 0).val ∧ (i 0).val < b.val + 1) ∧ (0 ≤ (i 1).val ∧ (i 1).val < 0 + 256) ∧ (0 ≤ (i 2).val ∧ (i 2).val < 0 + 512) ↔ _
  omega

omit [FloatOps F] in
theorem mem_out (b : Fin 2) (i : S2x256x512.Idx) : i ∈ (outM.access (rX b)).setOn Finset.univ ↔ (i 0).val = b.val := by
  rw [View.setOn_univ]
  show i ∈ ((View.whole cc0_stg5_0).slice (rX b)).set ↔ _
  rw [View.set_slice_whole]
  exact mem_rX b i

/-- Storing both rows leaves nothing of what was there before. -/
theorem storeRow_both (c : Dev nD) (f g : Acc F) (o : (cc0_stg5_0 : Ref sig .tc).ty.Contents (Elt F))
    (hf : ∀ s : Fin 4, s.val < 2 → sl s f = A m 4 s c) (hg : ∀ s : Fin 4, sl s g = A m 4 s c) :
    storeRow m c 1 g (storeRow m c 0 f o) = outAt m c := by
  have e0 : outRow m c 0 f = outRow m c 0 (total m c) := outRow_congr m c 0 fun s hs => by
    have hs2 : s.val < 2 := by simp only [Fin.val_zero] at hs; omega
    rw [hf s hs2]; exact (sl_joined (fun s => A m 4 s c) s).symm
  have e1 : outRow m c 1 g = outRow m c 1 (total m c) := outRow_congr m c 1 fun s hs => by
    rw [hg s]; exact (sl_joined (fun s => A m 4 s c) s).symm
  unfold outAt storeRow
  rw [e0, e1]
  funext i
  change S2x256x512.Idx at i
  refine View.write_congr (fun _ _ _ => rfl) fun h1 => View.write_congr (fun _ _ _ => rfl) fun h0 => absurd ?_ h0
  rw [mem_out]
  have h1' : ¬ (i 0).val = (1 : Fin 2).val := fun h => h1 ((mem_out 1 i).mpr h)
  have : (i 0).val < 2 := (i 0).isLt
  simp only [Fin.val_one, Fin.val_zero] at h1' ⊢
  omega

end Cert.Attn

end
-- ==== Proof.Schedule.lean ====
/-
# The protocol

Each device has thirty-three semaphores the devices share: its barrier semaphore, and for each step `t` and slice `s` one
semaphore for what it sends and one for what it receives. The barrier semaphore is raised by the four partners, and partner
number `j`'s unit hands over that partner's four landing slots which this device is to write. The receive semaphore `(t, s)`
is raised by the transfer of slice `s` at step `t`, and hands over the landing slot holding the partner's rounded slice; the
send semaphore hands the sent slice back.

A device owes, at launch, its four barrier units and its sixteen transfers. It waits only for what is below everything it
still owes: the barrier at level 1, a receive of step `t` at level `2 + t`.
-/
module

public import proofs.«01_k».proof.Proof.Contents
public import Idealize.ShloMosaic.Lib.ValueLayout

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, whose duties are numbered 0 to 3 -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Partners -/

theorem partner_partner (j : Fin 4) (c : Dev nD) : partner j (partner j c) = c := by revert j c; decide

/-- The device pairs of one mask. -/
def pairing (j : Fin 4) : Dev nD ≃ Dev nD := ⟨partner j, partner j, partner_partner j, partner_partner j⟩

/-- A step and a mask name one slice, and the naming goes both ways. -/
theorem which_which (t j : Fin 4) : which t (which t j) = j := by revert t j; decide

/-! ## The semaphores -/

/-- What a semaphore is for. -/
inductive Role where
  | bar
  | send (t s : Fin 4)
  | recv (t s : Fin 4)
  | other
  deriving DecidableEq

/-- The role of a core's semaphore. -/
def role : SemLoc sig → Role
  | .reg b => if b = barS then .bar else .other
  | .dma q => if q.val < 6 then .other
    else if q.val < 22 then .send (Fin.ofNat 4 ((q.val - 6) / 4)) (Fin.ofNat 4 ((q.val - 6) % 4))
    else .recv (Fin.ofNat 4 ((q.val - 22) / 4)) (Fin.ofNat 4 ((q.val - 22) % 4))

theorem role_bar : role (.reg barS) = .bar := by decide
theorem role_send (t s : Fin 4) : role (.dma (sendSem t s).sem) = .send t s := by revert t s; decide
theorem role_recv (t s : Fin 4) : role (.dma (recvSem t s).sem) = .recv t s := by revert t s; decide

abbrev barCell (c : Dev nD) : GSem nD τ sig := ((c : Thread nD τ), .reg barS)
abbrev sendCell (t s : Fin 4) (c : Dev nD) : GSem nD τ sig := ((c : Thread nD τ), .dma (sendSem t s).sem)
abbrev recvCell (t s : Fin 4) (c : Dev nD) : GSem nD τ sig := ((c : Thread nD τ), .dma (recvSem t s).sem)

/-- The credit of one transfer. -/
abbrev N : ℕ := (lndSlot 0 0).view.dmaCredit
theorem N_pos : 0 < N := View.dmaCredit_pos _ (by decide)

/-! ## Slices of the two transfer buffers -/

abbrev Snd (F : FTy → Type) [FloatOps F] : Type := (cc0_scratch1 : Ref sig .tc).ty.Contents (Elt F)
abbrev Lnd (F : FTy → Type) [FloatOps F] : Type := (cc0_scratch2 : Ref sig .tc).ty.Contents (Elt F)

/-- Slice `s` of device `c`'s sending buffer. -/
def sndPts (c : Dev nD) (s : Fin 4) (f : Snd F) : sProp 𝕄 :=
  (sndSlice s).view.loc (c : Thread nD τ) ↦[(sndSlice s).view.set]{fullShare} f
/-- Landing slot `(t, s)` of device `c`. -/
def lndPts (c : Dev nD) (t s : Fin 4) (f : Lnd F) : sProp 𝕄 :=
  (lndSlot t s).view.loc (c : Thread nD τ) ↦[(lndSlot t s).view.set]{fullShare} f

instance sndPts_storable (c : Dev nD) (s) (f) : BI.Storable (upEmb : UEmb _ 𝕄) (sndPts (F := F) c s f) := by unfold sndPts; infer_instance
instance lndPts_storable (c : Dev nD) (t s) (f) : BI.Storable (upEmb : UEmb _ 𝕄) (lndPts (F := F) c t s f) := by unfold lndPts; infer_instance

/-- A slot read as the kernel loads it. -/
def slotOf (t s : Fin 4) (f : Lnd F) : Vec F S1x1x136x256 .bf16 := (lndM.access (rSlot t s)).read (Elt F) f

/-- A transfer of a slice that holds `rounded a` lands as `arrived a`. -/
theorem landed (t s : Fin 4) (a : Vec F S1x136x256 .f32) (fs : Snd F) (fd : Lnd F)
    (h : (sndM.access (rSlice s)).read (Elt F) fs = rounded a) :
    slotOf t s ((lndSlot t s).view.write (Elt F) fd ((sndSlice s).view.read (Elt F) fs) Finset.univ) = arrived a := by
  have e : ∀ i : S1x1x136x256.Idx, ((lndM.access (rSlot t s)).emb i : S4x4x136x256.Idx)
      = (lndSlot t s).view.emb (ValueIdx.ix2 (⟨(i 2).val, (i 2).isLt⟩ : Fin 136) (⟨(i 3).val, (i 3).isLt⟩ : Fin 256)) := fun i => by
    refine Eq.trans ?_ (congrArg (lndM.access (rSlot t s)).emb (ValueIdx.reshapeEquiv_ix2_11ab _ _ _).symm)
    congr 1
    have h0 : (i 0).val < 1 := (i 0).isLt
    have h1 : (i 1).val < 1 := (i 1).isLt
    funext a
    apply Fin.ext
    fin_cases a
    · show (i 0).val = 0; omega
    · show (i 1).val = 0; omega
    · rfl
    · rfl
  funext i
  change S1x1x136x256.Idx at i
  show (lndSlot t s).view.write (Elt F) fd _ Finset.univ _ = _
  refine (congrArg _ (e i)).trans ?_
  refine (View.write_emb_of_mem _ _ (Finset.mem_univ _)).trans ?_
  unfold arrived
  rw [← h]
  refine (congrArg ((sndM.access (rSlice s)).read (Elt F) fs) (ValueIdx.reshapeEquiv_ix2_1ab _ _ _)).trans (congrArg _ ?_)
  funext a
  fin_cases a <;> rfl

/-! ## The schedule -/

/-- What partner `j`'s unit hands device `c`: that partner's landing slots which `c` is to write. -/
def barPay (c : Dev nD) (j : Fin 4) : sProp 𝕄 := bigSep Finset.univ fun t : Fin 4 => iprop(∃ f, lndPts (F := F) (partner j c) t (which t j) f)
/-- What an arrival hands over: the slot, holding what the partner sent. -/
def recvPay (t s : Fin 4) (c : Dev nD) : sProp 𝕄 :=
  iprop(∃ f, ⌜slotOf t s f = arrived (A m t.val s (partner (which t s) c))⌝ ∗ lndPts c t s f)
/-- What a completed sending hands back. -/
def sendPay (s : Fin 4) (c : Dev nD) : sProp 𝕄 := iprop(∃ f, sndPts (F := F) c s f)

/-- One round: the barrier has the four partners' units, a send or receive semaphore one transfer's credit. -/
def rd : Rounds.Schedule (GSem nD τ sig) (Fin 4) 𝕄 where
  duties g r := if r = 0 ∧ g.1.2 = .tc then (match role g.2 with | .bar => Finset.univ | .send _ _ => {0} | .recv _ _ => {0} | .other => ∅) else ∅
  unitless _ := False
  amount g _ _ := if role g.2 = .bar then 1 else N
  payload g _ d := match role g.2 with
    | .bar => barPay g.1.1 d
    | .send _ s => sendPay s g.1.1
    | .recv t s => recvPay m t s g.1.1
    | .other => iprop(emp)
  amount_pos g _ _ _ := by
    by_cases h : role g.2 = .bar
    · rw [if_pos h]; exact Nat.one_pos
    · rw [if_neg h]; exact N_pos

instance rd_payload_storable (g : GSem nD τ sig) (r : ℕ) (d : Fin 4) :
    BI.Storable (upEmb : UEmb _ 𝕄) ((rd (F := F) m).payload g r d) := by
  show BI.Storable upEmb (match role g.2 with
    | .bar => barPay g.1.1 d
    | .send _ s => sendPay s g.1.1
    | .recv t s => recvPay m t s g.1.1
    | .other => iprop(emp))
  unfold barPay recvPay sendPay
  split <;> infer_instance

section Sched
variable (c : Dev nD) (t s : Fin 4)

theorem duties_bar : (rd (F := F) m).duties (barCell c) 0 = Finset.univ := by
  dsimp only [rd]; rw [if_pos ⟨rfl, rfl⟩, role_bar]
theorem duties_send : (rd (F := F) m).duties (sendCell t s c) 0 = {0} := by
  dsimp only [rd]; rw [if_pos ⟨rfl, rfl⟩, role_send]
theorem duties_recv : (rd (F := F) m).duties (recvCell t s c) 0 = {0} := by
  dsimp only [rd]; rw [if_pos ⟨rfl, rfl⟩, role_recv]
theorem duties_later (g : GSem nD τ sig) : ∀ r, 1 ≤ r → (rd (F := F) m).duties g r = ∅ :=
  fun r hr => by dsimp only [rd]; rw [if_neg fun h => by omega]

theorem amount_bar (d : Fin 4) : (rd (F := F) m).amount (barCell c) 0 d = 1 := by
  dsimp only [rd]; exact if_pos role_bar
theorem amount_send (d : Fin 4) : (rd (F := F) m).amount (sendCell t s c) 0 d = N := by
  dsimp only [rd]; exact if_neg (by rw [role_send]; exact fun h => by cases h)
theorem amount_recv (d : Fin 4) : (rd (F := F) m).amount (recvCell t s c) 0 d = N := by
  dsimp only [rd]; exact if_neg (by rw [role_recv]; exact fun h => by cases h)

theorem expect_bar : (rd (F := F) m).expect (barCell c) 0 = 4 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell t s c) 0 = N := by
  unfold Schedule.expect Schedule.amountOf; rw [duties_send, Finset.sum_singleton, amount_send]
theorem expect_recv : (rd (F := F) m).expect (recvCell t s c) 0 = N := by
  unfold Schedule.expect Schedule.amountOf; rw [duties_recv, Finset.sum_singleton, amount_recv]

theorem payload_bar (d : Fin 4) : (rd (F := F) m).payload (barCell c) 0 d = barPay c d := by dsimp only [rd]; rw [role_bar]
theorem payload_send (d : Fin 4) : (rd (F := F) m).payload (sendCell t s c) 0 d = sendPay s c := by dsimp only [rd]; rw [role_send]
theorem payload_recv (d : Fin 4) : (rd (F := F) m).payload (recvCell t s c) 0 d = recvPay m t s c := by dsimp only [rd]; rw [role_recv]

theorem rest_bar : bigSep ((rd (F := F) m).duties (barCell c) 0 \ ∅) (fun d => (rd (F := F) m).payload (barCell c) 0 d)
    = bigSep Finset.univ fun j : Fin 4 => barPay (F := F) c j := by
  rw [Finset.sdiff_empty, duties_bar]; exact bigSep_congr fun d _ => payload_bar m c d
theorem rest_send : bigSep ((rd (F := F) m).duties (sendCell t s c) 0 \ ∅) (fun d => (rd (F := F) m).payload (sendCell t s c) 0 d) = sendPay s c := by
  rw [Finset.sdiff_empty, duties_send, bigSep_singleton, payload_send]
theorem rest_recv : bigSep ((rd (F := F) m).duties (recvCell t s c) 0 \ ∅) (fun d => (rd (F := F) m).payload (recvCell t s c) 0 d) = recvPay m t s c := by
  rw [Finset.sdiff_empty, duties_recv, bigSep_singleton, payload_recv]

end Sched

/-! ## What each device owes; the levels -/

/-- The transfer of slice `s` at step `t`: a credit on the partner's receive semaphore. -/
abbrev due (c : Dev nD) (t s : Fin 4) : CellTallies nD τ sig Unit := tallyAt (recvCell t s (partner (which t s) c)) () N

/-- The last `k` of the sixteen transfers, in the order they are started; the first of them is the last summand. -/
def dueLast (c : Dev nD) : ℕ → CellTallies nD τ sig Unit
  | 0 => 0
  | k + 1 => dueLast c k + due c (Fin.ofNat 4 ((15 - k) / 4)) (Fin.ofNat 4 ((15 - k) % 4))

/-- The last `k` of the four barrier units, beside all the transfers. -/
def owedBar (c : Dev nD) : ℕ → CellTallies nD τ sig Unit
  | 0 => dueLast c 16
  | k + 1 => owedBar c k + tallyAt (barCell (partner (Fin.ofNat 4 (3 - k)) c)) () 1

/-- What a device owes at launch. -/
def O₀ (c : Dev nD) : CellTallies nD τ sig Unit := owedBar c 4

def L (g : GSem nD τ sig) : Finset Unit := if g.1.2 = .tc then {()} else ∅
/-- The barrier at 1, a receive of step `t` at `2 + t`, everything else at 0. -/
def lv (g : GSem nD τ sig) (_ : Unit) : ℕ := match role g.2 with | .bar => 1 | .recv t _ => 2 + t.val | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [role_bar]
theorem lv_recv (t s : Fin 4) (c : Dev nD) : lv (recvCell t s c) () = 2 + t.val := by unfold lv; rw [role_recv]
theorem lv_send (t s : Fin 4) (c : Dev nD) : lv (sendCell t s c) () = 0 := by unfold lv; rw [role_send]

/-- What is still owed among the last `k` transfers is on a receive semaphore of a step no earlier than theirs. -/
theorem dueLast_pos {c : Dev nD} {k : ℕ} (hk : k ≤ 16) {g : GSem nD τ sig} {u : Unit} (h : 0 < dueLast c k g u) :
    ∃ (t s : Fin 4) (d : Dev nD), (16 - k) / 4 ≤ t.val ∧ g = recvCell t s d := by
  induction k with
  | zero => exact absurd h (Nat.lt_irrefl 0)
  | succ k ih =>
    unfold dueLast at h
    rw [Pi.add_apply, Finsupp.add_apply] at h
    by_cases h' : 0 < dueLast c k g u
    · obtain ⟨t, s, d, ht, e⟩ := ih (by omega) h'
      exact ⟨t, s, d, le_trans (by omega) ht, e⟩
    · rw [Nat.eq_zero_of_not_pos h', Nat.zero_add, tallyAt_apply] at h
      by_cases hg : g = recvCell (Fin.ofNat 4 ((15 - k) / 4)) (Fin.ofNat 4 ((15 - k) % 4))
          (partner (which (Fin.ofNat 4 ((15 - k) / 4)) (Fin.ofNat 4 ((15 - k) % 4))) c) ∧ u = ()
      · refine ⟨_, _, _, ?_, hg.1⟩
        show _ ≤ (15 - k) / 4 % 4
        omega
      · rw [if_neg hg] at h; exact absurd h (Nat.lt_irrefl 0)

theorem owedBar_pos {c : Dev nD} {k : ℕ} {g : GSem nD τ sig} {u : Unit} (h : 0 < owedBar c k g u) :
    (∃ d : Dev nD, g = barCell d) ∨ ∃ (t s : Fin 4) (d : Dev nD), g = recvCell t s d := by
  induction k with
  | zero =>
    obtain ⟨t, s, d, -, e⟩ := dueLast_pos (le_refl 16) h
    exact Or.inr ⟨t, s, d, e⟩
  | succ k ih =>
    unfold owedBar at h
    rw [Pi.add_apply, Finsupp.add_apply] at h
    by_cases h' : 0 < owedBar c k g u
    · exact ih h'
    · rw [Nat.eq_zero_of_not_pos h', Nat.zero_add, tallyAt_apply] at h
      by_cases hg : g = barCell (partner (Fin.ofNat 4 (3 - k)) c) ∧ u = ()
      · exact Or.inl ⟨_, hg.1⟩
      · rw [if_neg hg] at h; exact absurd h (Nat.lt_irrefl 0)

/-- A staging semaphore may be waited for whatever is owed at launch. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedBar_pos hg with ⟨d, rfl⟩ | ⟨t, s, d, rfl⟩ <;> exact Finset.mem_singleton_self _)
      (fun p hp => by rw [Finset.mem_singleton.mp hp]; show lv _ _ ≤ 0; unfold lv; rw [hq])
      (fun g u hg => by
        rcases owedBar_pos hg with ⟨d, rfl⟩ | ⟨t, s, d, rfl⟩
        · rw [lv_bar]; decide
        · rw [lv_recv]; omega)
  · rw [MayWait_zero]; iintro -; iempintro

/-- The barrier may be waited for while the transfers are owed. -/
theorem mayWait_bar (c : Dev nD) : (levAts L lv : sProp 𝕄) ⊢ MayWait (c : Thread nD τ) (.reg barS) () (dueLast c 16) :=
  MayOwe.of_cut (L := L) (lev := lv) 1 (fun p hp => by rw [Finset.mem_singleton.mp hp, L_tc]; exact Finset.mem_singleton_self _)
    (fun g u hg => by obtain ⟨t, s, d, -, rfl⟩ := dueLast_pos (le_refl 16) hg; exact Finset.mem_singleton_self _)
    (fun p hp => by rw [Finset.mem_singleton.mp hp]; exact le_of_eq (lv_bar c))
    (fun g u hg => by obtain ⟨t, s, d, -, rfl⟩ := dueLast_pos (le_refl 16) hg; rw [lv_recv]; omega)

/-- A send of any step may be waited for while transfers are owed, -/
theorem mayWait_send (c : Dev nD) (t s : Fin 4) (k : ℕ) (hk : k ≤ 16) :
    (levAts L lv : sProp 𝕄) ⊢ MayWait (c : Thread nD τ) (.dma (sendSem t s).sem) () (dueLast c k) :=
  MayOwe.of_cut (L := L) (lev := lv) 0 (fun p hp => by rw [Finset.mem_singleton.mp hp, L_tc]; exact Finset.mem_singleton_self _)
    (fun g u hg => by obtain ⟨t, s, d, -, rfl⟩ := dueLast_pos hk hg; exact Finset.mem_singleton_self _)
    (fun p hp => by rw [Finset.mem_singleton.mp hp]; exact le_of_eq (lv_send t s c))
    (fun g u hg => by obtain ⟨t, s, d, -, rfl⟩ := dueLast_pos hk hg; rw [lv_recv]; omega)

/-- and a receive of step `t` while only transfers of later steps are. -/
theorem mayWait_recv (c : Dev nD) (t s : Fin 4) (k : ℕ) (hk : k ≤ 16) (ht : t.val < (16 - k) / 4) :
    (levAts L lv : sProp 𝕄) ⊢ MayWait (c : Thread nD τ) (.dma (recvSem t s).sem) () (dueLast c k) :=
  MayOwe.of_cut (L := L) (lev := lv) (2 + t.val) (fun p hp => by rw [Finset.mem_singleton.mp hp, L_tc]; exact Finset.mem_singleton_self _)
    (fun g u hg => by obtain ⟨t, s, d, -, rfl⟩ := dueLast_pos hk hg; exact Finset.mem_singleton_self _)
    (fun p hp => by rw [Finset.mem_singleton.mp hp]; exact le_of_eq (lv_recv t s c))
    (fun g u hg => by obtain ⟨t', s, d, h, rfl⟩ := dueLast_pos hk hg; rw [lv_recv]; omega)

end Cert.Attn

end
-- ==== Proof.Triples.lean ====
/-
# What each step of the kernel does

One theorem per step of `prog`: what the step needs, what it leaves.
-/
module

public import proofs.«01_k».proof.Proof.Schedule

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The shared records -/

/-- The thirty-three semaphores: the barrier, the sixteen sends, the sixteen receives. -/
def csem (k : Fin 33) : SemLoc sig := if k = 0 then .reg barS else .dma (⟨5 + k.val, by have := k.isLt; show 5 + k.val < 38; omega⟩ : Fin 38)
abbrev kcell (ck : Dev nD × Fin 33) : GSem nD τ sig := ((ck.1 : Thread nD τ), csem ck.2)

def sendIx (t s : Fin 4) : Fin 33 := ⟨1 + (4 * t.val + s.val), by omega⟩
def recvIx (t s : Fin 4) : Fin 33 := ⟨17 + (4 * t.val + s.val), by omega⟩

theorem csem_bar : csem 0 = .reg barS := rfl
theorem csem_send (t s : Fin 4) : csem (sendIx t s) = .dma (sendSem t s).sem := by revert t s; decide
theorem csem_recv (t s : Fin 4) : csem (recvIx t s) = .dma (recvSem t s).sem := by revert t s; decide

/-- Every device's semaphores follow the schedule, and each has reached its one round. -/
def records (K : Dev nD × Fin 33 → ℕ) : sProp 𝕄 :=
  iprop((bigSep Finset.univ fun ck : Dev nD × Fin 33 => cellInv ER (rd m) (K ck) (kcell ck))
    ∗ bigSep Finset.univ fun ck : Dev nD × Fin 33 => reached ER (kcell ck) 0)

instance records_persistent (K : Dev nD × Fin 33 → ℕ) : BI.Persistent (records m K) := by unfold records; infer_instance

variable (K : Dev nD × Fin 33 → ℕ)

theorem inv_at (ck : Dev nD × Fin 33) : (records m K) ⊢ (cellInv ER (rd m) (K ck) (kcell ck) : sProp 𝕄) := by
  have h : (bigSep Finset.univ fun ck : Dev nD × Fin 33 => (cellInv ER (rd m) (K ck) (kcell ck) : sProp 𝕄)) ⊢ cellInv ER (rd m) (K ck) (kcell ck) :=
    bigSep_elim (Finset.mem_univ ck)
  unfold records; iintro ⟨H, -⟩; iapply h; iexact H
theorem reached_at (ck : Dev nD × Fin 33) : (records m K) ⊢ (reached ER (kcell ck) 0 : sProp 𝕄) := by
  have h : (bigSep Finset.univ fun ck : Dev nD × Fin 33 => (reached ER (kcell ck) 0 : sProp 𝕄)) ⊢ reached ER (kcell ck) 0 :=
    bigSep_elim (Finset.mem_univ ck)
  unfold records; iintro ⟨-, H⟩; iapply h; iexact H

theorem inv_send (t s : Fin 4) (c : Dev nD) : (records m K) ⊢ (cellInv ER (rd m) (K (c, sendIx t s)) (sendCell t s c) : sProp 𝕄) := by
  have h := inv_at m K (c, sendIx t s); unfold kcell at h; rw [csem_send] at h; exact h
theorem inv_recv (t s : Fin 4) (c : Dev nD) : (records m K) ⊢ (cellInv ER (rd m) (K (c, recvIx t s)) (recvCell t s c) : sProp 𝕄) := by
  have h := inv_at m K (c, recvIx t s); unfold kcell at h; rw [csem_recv] at h; exact h
theorem inv_bar (c : Dev nD) : (records m K) ⊢ (cellInv ER (rd m) (K (c, 0)) (barCell c) : sProp 𝕄) := inv_at m K (c, 0)
theorem reached_send (t s : Fin 4) (c : Dev nD) : (records m K) ⊢ (reached ER (sendCell t s c) 0 : sProp 𝕄) := by
  have h := reached_at m K (c, sendIx t s); unfold kcell at h; rw [csem_send] at h; exact h
theorem reached_recv (t s : Fin 4) (c : Dev nD) : (records m K) ⊢ (reached ER (recvCell t s c) 0 : sProp 𝕄) := by
  have h := reached_at m K (c, recvIx t s); unfold kcell at h; rw [csem_recv] at h; exact h
theorem reached_bar (c : Dev nD) : (records m K) ⊢ (reached ER (barCell c) 0 : sProp 𝕄) := reached_at m K (c, 0)

/-! ## What a device holds -/

/-- The accumulator of device `c`. -/
def accPts (c : Dev nD) (f : Acc F) : sProp 𝕄 := ((c : Thread nD τ).loc cc0_scratch0) ↦{fullShare} f

/-- What device `c` owes, whatever it has waited for. -/
def ows (c : Dev nD) (O : CellTallies nD τ sig Unit) : sProp 𝕄 := iprop(∃ W, owes (c : Thread nD τ) O W)

/-- What the exchange of slice `s` at step `t` takes: the positions of its two semaphores, the duties it pays, the credit of
    what it receives. -/
def tick (c : Dev nD) (t s : Fin 4) : sProp 𝕄 :=
  iprop(atPos ER (sendCell t s c) 0 ∅ 0 ∗ atPos ER (recvCell t s c) 0 ∅ 0 ∗ dutyTok ER (sendCell t s c) 0 0
    ∗ dutyTok ER (recvCell t s (partner (which t s) c)) 0 0 ∗ cred (tallyAt (recvCell t s c) () N))
/-- The partner's landing slot, to be written. -/
def free (c : Dev nD) (t s : Fin 4) : sProp 𝕄 := iprop(∃ f, lndPts (F := F) (partner (which t s) c) t s f)
/-- A transfer under way both ways. -/
def flight (c : Dev nD) (t s : Fin 4) : sProp 𝕄 :=
  iprop(atPos ER (sendCell t s c) 0 ∅ 0 ∗ atPos ER (recvCell t s c) 0 ∅ 0 ∗ cred (tallyAt (sendCell t s c) () N) ∗ cred (tallyAt (recvCell t s c) () N))
/-- A transfer done: the semaphores at zero, the landing slot back. -/
def done (c : Dev nD) (t s : Fin 4) : sProp 𝕄 :=
  iprop(semVal (sendCell t s c) 0 ∗ semVal (recvCell t s c) 0 ∗ ∃ f, lndPts (F := F) c t s f)

/-! ## The exchange -/

theorem sndM_sub (s : Fin 4) : (sndM.access (rSlice s)).set ⊆ (sndSlice s).view.set := by
  exact (View.set_reshape (sndM.view.slice (rSlice s)) squeezes_S1x136x256_S136x256.numel_eq).symm.subset
theorem lndM_sub (t s : Fin 4) : (lndM.access (rSlot t s)).set ⊆ (lndSlot t s).view.set := by
  exact (View.set_reshape (lndM.view.slice (rSlot t s)) squeezes_S1x1x136x256_S136x256.numel_eq).symm.subset

theorem amount_slot (t s : Fin 4) : (lndSlot t s).view.amount (.dma (recvSem t s).sem) = N := rfl

/-- The transfer alone: from a slice holding the rounded slice `s`, into the partner's free slot. -/
theorem wp_transfer (c : Dev nD) (t s : Fin 4) (fs : Snd F) (fd : Lnd F) (hfs : (sndM.access (rSlice s)).read (Elt F) fs = rounded (A m t.val s c))
    (O O' : CellTallies nD τ sig Unit) (hO : O' = O + due c t s) (W : Waits sig Unit)
    {hsc : (lndSlot t s : Memref sig (Dev.tc (partner (which t s) c) : Thread nD τ).2.kind .vmem S136x256 .bf16).view.ref.isScScratch = false}
    {hsrc : (sndSlice s).view.WordExact} {hdst : (lndSlot t s).view.WordExact}
    {hsem : DmaTarget.Typed .vmem (.dma (recvSem t s).sem) (.remote (Dev.tc (partner (which t s) c) : Thread nD τ) (lndSlot t s) (.dma (sendSem t s).sem) hsc)}
    {α : Type} {Q : α → sProp 𝕄} {k : PUnit → P F α} :
    iprop(records m K ∗ sndPts c s fs ∗ lndPts (partner (which t s) c) t s fd ∗ owes (c : Thread nD τ) O' W
        ∗ dutyTok ER (sendCell t s c) 0 0 ∗ dutyTok ER (recvCell t s (partner (which t s) c)) 0 0)
      ⊢ iprop(((cred (tallyAt (sendCell t s c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndSlice s) (.remote (Dev.tc (partner (which t s) c) : Thread nD τ) (lndSlot t s) (.dma (sendSem t s).sem) hsc)
                (.dma (recvSem t s).sem) hsrc hdst hsem) k) Q) := by
  have h1 : sndPts c s fs ⊢ (rd m).payload (sendCell t s c) 0 0 := by
    rw [payload_send]; unfold sendPay; iintro H; iexists fs; iexact H
  have h2 : lndPts (partner (which t s) c) t s ((lndSlot t s).view.write (Elt F) fd ((sndSlice s).view.read (Elt F) fs) Finset.univ)
      ⊢ (rd m).payload (recvCell t s (partner (which t s) c)) 0 0 := by
    rw [payload_recv]; unfold recvPay; iintro H
    iexists _
    isplitr
    · ipureintro
      rw [partner_partner]
      exact landed t s _ fs fd hfs
    iexact H
  iintro ⟨#HR, Hs, Hd, HO, HtS, HtV⟩
  unfold sndPts at h1 ⊢
  unfold lndPts at h2 ⊢
  have h3 := Rounds.wp_send_pointsTo (Γ := []) (Es := Set.univ) (defs := defs₀ (F := F)) (Q := Q) (k := k) 𝒱₀ ER (rd m) (c : Thread nD τ) none (κ₁ := K (c, sendIx t s)) (κ₂ := K (partner (which t s) c, recvIx t s))
    (r₁ := 0) (r₂ := 0) (d₁ := 0) (d₂ := 0) (c' := (partner (which t s) c : Thread nD τ)) (fs := fs) (fd := fd) (hsc := hsc) (hsrc := hsrc) (hdst := hdst) (hsem := hsem)
    (by rw [duties_send]; exact Finset.mem_singleton_self _) (by rw [duties_recv]; exact Finset.mem_singleton_self _)
    () () N (amount_slot t s) (amount_send m c t s 0) (amount_recv m (partner (which t s) c) t s 0) O hO (W := W) h1 h2
  iapply h3
  isplitr; · iapply (inv_send m K t s c); iexact HR
  isplitr; · iapply (inv_recv m K t s (partner (which t s) c)); iexact HR
  isplitl [Hs]; · iexact Hs
  isplitl [Hd]; · iexact Hd
  isplitl [HO]; · iexact HO
  isplitl [HtS]; · iexact HtS
  isplitr; · iapply (reached_send m K t s c); iexact HR
  isplitl [HtV]; · iexact HtV
  iapply (reached_recv m K t s (partner (which t s) c)); iexact HR

/-- Starting an exchange: the slice is rounded into the send buffer and its copy to the partner started. -/
theorem wp_exchange (c : Dev nD) (t s : Fin 4) (f : Acc F) (hf : sl s f = A m t.val s c) (O O' : CellTallies nD τ sig Unit) (hO : O' = O + due c t s)
    (Q : PUnit → sProp 𝕄) :
    iprop(records m K ∗ accPts c f ∗ sendPay s c ∗ tick c t s ∗ free c t s ∗ ows c O')
      ⊢ iprop(((accPts c f ∗ flight c t s ∗ ows c O) -∗ Q ⟨⟩) -∗ wp frame (wpE (defs₀ (F := F)) 𝒱₀ (c : Thread nD τ) none) Set.univ (exchange c t s) Q) := by
  unfold exchange
  simp only [Prog.lift, Prog.bind_op, Prog.bind_ret]
  unfold accPts sendPay tick free ows
  iintro ⟨#HR, Ha, ⟨%f0, Hs⟩, ⟨HaS, HaV, HtS, HtV, HcV⟩, ⟨%fd, Hd⟩, ⟨%W, HO⟩⟩ Hk
  iapply (wp_load_rect 𝒱₀ (c : Thread nD τ) none Set.univ (m := accM) (r := rSlice s) (Finset.subset_univ _)) $$ Ha; iintro Ha
  rw [show (accM.access (rSlice s)).read (Elt F) f = A m t.val s c from hf]
  unfold sndPts
  iapply (wp_load_rect 𝒱₀ (c : Thread nD τ) none Set.univ (m := sndM) (r := rSlice s) (sndM_sub s)) $$ Hs; iintro Hs
  iapply (wp_store 𝒱₀ (c : Thread nD τ) none Set.univ (m := sndM) (r := rSlice s) (Mk := Finset.univ) (by rw [View.setOn_univ]; exact sndM_sub s)) $$ Hs; iintro Hs
  obtain ⟨fs, hfs⟩ : ∃ fs : Snd F, fs = (sndM.access (rSlice s)).write (Elt F) f0 (rounded (A m t.val s c)) Finset.univ := ⟨_, rfl⟩
  have hr : (sndM.access (rSlice s)).read (Elt F) fs = rounded (A m t.val s c) := by rw [hfs]; exact View.read_write_univ _ _
  rw [← hfs]
  iapply (wp_transfer m K c t s fs fd hr O O' hO W) $$ [Hs Hd HO HtS HtV]
  · isplitr; · iexact HR
    isplitl [Hs]; · unfold sndPts; iexact Hs
    isplitl [Hd]; · iexact Hd
    isplitl [HO]; · iexact HO
    isplitl [HtS] <;> iassumption
  iintro ⟨HcS, HO⟩
  rw [wp_ret]; imodintro
  iapply Hk
  isplitl [Ha]; · iexact Ha
  unfold flight
  isplitl [HaS HaV HcS HcV]
  · isplitl [HaS]; · iexact HaS
    isplitl [HaV]; · iexact HaV
    isplitl [HcS] <;> iassumption
  iexists W; iexact HO

/-- The store of a slice, on the slices. -/
theorem write_joined (v : Fin 4 → Vec F S1x136x256 .f32) (s : Fin 4) (w : Vec F S1x136x256 .f32) :
    (accM.access (rSlice s)).write (Elt F) (joined v) w Finset.univ = joined (Function.update v s w) := by
  rw [← joined_sl ((accM.access (rSlice s)).write (Elt F) (joined v) w Finset.univ)]
  congr 1
  funext s'
  rw [sl_write]
  congr 1
  funext s''
  exact sl_joined v s''

/-- Ending an exchange: both semaphores are waited for and the arrived slice is added. -/
theorem wp_receive (c : Dev nD) (t s : Fin 4) (v : Fin 4 → Vec F S1x136x256 .f32) (hv : v s = A m t.val s c) (k : ℕ) (hk : k ≤ 16) (ht : t.val < (16 - k) / 4)
    (Q : PUnit → sProp 𝕄) :
    iprop(records m K ∗ levAts L lv ∗ accPts c (joined v) ∗ flight c t s ∗ ows c (dueLast c k))
      ⊢ iprop(((accPts c (joined (Function.update v s (A m (t.val + 1) s c))) ∗ sendPay s c ∗ done c t s ∗ ows c (dueLast c k)) -∗ Q ⟨⟩)
          -∗ wp frame (wpE (defs₀ (F := F)) 𝒱₀ (c : Thread nD τ) none) Set.univ (receive t s) Q) := by
  unfold receive
  simp only [Prog.lift, Prog.bind_op, Prog.bind_ret]
  unfold accPts flight ows
  iintro ⟨#HR, #Hlev, Ha, ⟨HaS, HaV, HcS, HcV⟩, ⟨%W, HO⟩⟩ Hk
  ihave #HIS := (inv_send m K t s c) $$ HR
  ihave #HIV := (inv_recv m K t s c) $$ HR
  iapply (Rounds.wp_wait_rest_token 𝒱₀ ER (rd m) (c : Thread nD τ) none (κ := K (c, sendIx t s))
      (wpE_waitDma2_eq 𝒱₀ (c : Thread nD τ) none Set.univ) (Set.mem_univ _) () (O := dueLast c k) (W := W) (R := 0) (m := 0) (T := ∅)
      (by rw [Nat.zero_add, expect_send])) $$ [HcS HO HaS]
  · isplitr; · iexact HIS
    isplitl [HcS]; · iexact HcS
    isplitl [HO]; · iexact HO
    isplitr; · iapply (mayWait_send c t s k hk); iexact Hlev
    iexact HaS
  iintro ⟨HO, HaS, -, Hpay⟩
  ihave Hs := (Entails.of_eq (rest_send m c t s)) $$ Hpay
  iapply (Rounds.wp_wait_rest_token 𝒱₀ ER (rd m) (c : Thread nD τ) none (κ := K (c, recvIx t s))
      (wpE_waitDma2_eq 𝒱₀ (c : Thread nD τ) none Set.univ) (Set.mem_univ _) () (O := dueLast c k)
      (W := insert (SemLoc.dma (sendSem t s).sem, ()) W) (R := 0) (m := 0) (T := ∅)
      (by rw [Nat.zero_add, expect_recv])) $$ [HcV HO HaV]
  · isplitr; · iexact HIV
    isplitl [HcV]; · iexact HcV
    isplitl [HO]; · iexact HO
    isplitr; · iapply (mayWait_recv c t s k hk ht); iexact Hlev
    iexact HaV
  iintro ⟨HO, HaV, -, Hpay⟩
  ihave Hp := (Entails.of_eq (rest_recv m c t s)) $$ Hpay
  unfold recvPay
  icases Hp with ⟨%g, %hg, Hl⟩
  imod (Rounds.cell_close ER (rd m) (Set.mem_univ (K (c, sendIx t s))) (fun h => h) (R := 0 + 1) (duties_later m (sendCell t s c))) $$ [HaS] with HzS
  · isplitr; · iexact HIS
    iexact HaS
  imod (Rounds.cell_close ER (rd m) (Set.mem_univ (K (c, recvIx t s))) (fun h => h) (R := 0 + 1) (duties_later m (recvCell t s c))) $$ [HaV] with HzV
  · isplitr; · iexact HIV
    iexact HaV
  iapply (wp_load_rect 𝒱₀ (c : Thread nD τ) none Set.univ (m := accM) (r := rSlice s) (Finset.subset_univ _)) $$ Ha; iintro Ha
  unfold lndPts
  iapply (wp_load_rect 𝒱₀ (c : Thread nD τ) none Set.univ (m := lndM) (r := rSlot t s) (lndM_sub t s)) $$ Hl; iintro Hl
  iapply (wp_load_rect 𝒱₀ (c : Thread nD τ) none Set.univ (m := accM) (r := rSlice s) (Finset.subset_univ _)) $$ Ha; iintro Ha
  iapply (wp_store 𝒱₀ (c : Thread nD τ) none Set.univ (m := accM) (r := rSlice s) (Mk := Finset.univ) (Finset.subset_univ _)) $$ Ha; iintro Ha
  rw [wp_ret]; imodintro
  have e : (accM.access (rSlice s)).write (Elt F) (joined v)
      (added ((accM.access (rSlice s)).read (Elt F) (joined v)) ((lndM.access (rSlot t s)).read (Elt F) g)) Finset.univ
      = joined (Function.update v s (A m (t.val + 1) s c)) := by
    rw [write_joined, A_succ, ← hg]
    congr 2
    rw [← hv]
    exact congrArg (fun a => added a _) (sl_joined v s)
  iapply Hk
  isplitl [Ha]; · rw [← e]; iexact Ha
  isplitl [Hs]; · iexact Hs
  unfold done lndPts
  isplitl [HzS HzV Hl]
  · isplitl [HzS]; · iexact HzS
    isplitl [HzV]; · iexact HzV
    iexists g; iexact Hl
  iexists _; iexact HO

/-! ## The computation -/

/-- A staging buffer's contents. -/
def stPts (c : Dev nD) (b : Ref sig .tc) (f : b.ty.Contents (Elt F)) : sProp 𝕄 := ((c : Thread nD τ).loc b) ↦{fullShare} f

/-- One head of a batch row: its row sums and its context are stored. -/
theorem wp_head (c : Dev nD) (b : Fin 2) (h : Fin 4) (f : Acc F) (Q : PUnit → sProp 𝕄) :
    iprop(accPts c f ∗ stPts c cc0_stg2_0 (kIn m c) ∗ stPts c cc0_stg3_0 (vIn m c))
      ⊢ iprop(((accPts c (headOf m c b h f) ∗ stPts c cc0_stg2_0 (kIn m c) ∗ stPts c cc0_stg3_0 (vIn m c)) -∗ Q ⟨⟩)
          -∗ wp frame (wpE (defs₀ (F := F)) 𝒱₀ (c : Thread nD τ) none) Set.univ (head c b (qAt m c b) h) Q) := by
  unfold head
  simp only [Prog.lift, Prog.bind_op, Prog.bind_ret]
  unfold accPts stPts
  iintro ⟨Ha, Hk, Hv⟩ Hc
  iapply (wp_load_rect 𝒱₀ (c : Thread nD τ) none Set.univ (m := kM) (r := rKV b h) (Finset.subset_univ _)) $$ Hk; iintro Hk
  iapply (wp_load_rect 𝒱₀ (c : Thread nD τ) none Set.univ (m := accM) (r := rSum b h) (Finset.subset_univ _)) $$ Ha; iintro Ha
  iapply (wp_store 𝒱₀ (c : Thread nD τ) none Set.univ (m := accM) (r := rSum b h) (Mk := Finset.univ) (Finset.subset_univ _)) $$ Ha; iintro Ha
  iapply (wp_load_rect 𝒱₀ (c : Thread nD τ) none Set.univ (m := vM) (r := rKV b h) (Finset.subset_univ _)) $$ Hv; iintro Hv
  iapply (wp_load_rect 𝒱₀ (c : Thread nD τ) none Set.univ (m := accM) (r := rCtx b h) (Finset.subset_univ _)) $$ Ha; iintro Ha
  iapply (wp_store 𝒱₀ (c : Thread nD τ) none Set.univ (m := accM) (r := rCtx b h) (Mk := Finset.univ) (Finset.subset_univ _)) $$ Ha; iintro Ha
  rw [wp_ret]; imodintro
  iapply Hc
  isplitl [Ha]; · unfold headOf sumOf; iexact Ha
  isplitl [Hk] <;> iassumption

/-- A batch row's share: the rows past the row sums are cleared and the four heads stored. -/
theorem wp_partialRow (c : Dev nD) (b : Fin 2) (f : Acc F) (Q : PUnit → sProp 𝕄) :
    iprop(accPts c f ∗ stPts c cc0_stg0_0 (xIn m c) ∗ stPts c cc0_stg1_0 (wqIn m c) ∗ stPts c cc0_stg2_0 (kIn m c) ∗ stPts c cc0_stg3_0 (vIn m c))
      ⊢ iprop(((accPts c (rowOf m c b f) ∗ stPts c cc0_stg0_0 (xIn m c) ∗ stPts c cc0_stg1_0 (wqIn m c) ∗ stPts c cc0_stg2_0 (kIn m c) ∗ stPts c cc0_stg3_0 (vIn m c)) -∗ Q ⟨⟩)
          -∗ wp frame (wpE (defs₀ (F := F)) 𝒱₀ (c : Thread nD τ) none) Set.univ (partialRow c b) Q) := by
  unfold partialRow
  simp only [Prog.lift, Prog.bind_op, Prog.bind_ret]
  iintro ⟨Ha, Hx, Hw, Hk, Hv⟩ Hc
  unfold accPts stPts
  iapply (wp_load_rect 𝒱₀ (c : Thread nD τ) none Set.univ (m := accM) (r := rZero b) (Finset.subset_univ _)) $$ Ha; iintro Ha
  iapply (wp_store 𝒱₀ (c : Thread nD τ) none Set.univ (m := accM) (r := rZero b) (Mk := Finset.univ) (Finset.subset_univ _)) $$ Ha; iintro Ha
  iapply (wp_load_rect 𝒱₀ (c : Thread nD τ) none Set.univ (m := xM) (r := rX b) (Finset.subset_univ _)) $$ Hx; iintro Hx
  iapply (wp_load_rect 𝒱₀ (c : Thread nD τ) none Set.univ (m := wqM) (r := rWq) (Finset.subset_univ _)) $$ Hw; iintro Hw
  rw [show queries ((xM.access (rX b)).read (Elt F) (xIn m c)) ((wqM.access rWq).read (Elt F) (wqIn m c)) = qAt m c b from rfl]
  rw [wp_bind]
  iapply (wp_head m c b 0 (clearOf b f)) $$ [Ha Hk Hv]
  · unfold accPts stPts clearOf; isplitl [Ha]; · iexact Ha
    isplitl [Hk] <;> iassumption
  iintro ⟨Ha, Hk, Hv⟩
  rw [wp_bind]
  iapply (wp_head m c b 1 (headOf m c b 0 (clearOf b f))) $$ [Ha Hk Hv]
  · isplitl [Ha]; · iexact Ha
    isplitl [Hk] <;> iassumption
  iintro ⟨Ha, Hk, Hv⟩
  rw [wp_bind]
  iapply (wp_head m c b 2) $$ [Ha Hk Hv]
  · isplitl [Ha]; · iexact Ha
    isplitl [Hk] <;> iassumption
  iintro ⟨Ha, Hk, Hv⟩
  iapply (wp_head m c b 3) $$ [Ha Hk Hv]
  · isplitl [Ha]; · iexact Ha
    isplitl [Hk] <;> iassumption
  iintro ⟨Ha, Hk, Hv⟩
  iapply Hc
  isplitl [Ha]; · unfold rowOf accPts; iexact Ha
  isplitl [Hx]; · iexact Hx
  isplitl [Hw]; · iexact Hw
  unfold stPts
  isplitl [Hk] <;> iassumption

/-- The last step of a batch row: the context is divided, projected and stored. -/
theorem wp_project (c : Dev nD) (b : Fin 2) (f : Acc F) (o : (cc0_stg5_0 : Ref sig .tc).ty.Contents (Elt F)) (Q : PUnit → sProp 𝕄) :
    iprop(accPts c f ∗ stPts c cc0_stg4_0 (woIn m c) ∗ stPts c cc0_stg5_0 o)
      ⊢ iprop(((accPts c f ∗ stPts c cc0_stg4_0 (woIn m c) ∗ stPts c cc0_stg5_0 (storeRow m c b f o)) -∗ Q ⟨⟩)
          -∗ wp frame (wpE (defs₀ (F := F)) 𝒱₀ (c : Thread nD τ) none) Set.univ (project b) Q) := by
  unfold project
  simp only [Prog.lift, Prog.bind_op, Prog.bind_ret]
  iintro ⟨Ha, Hw, Ho⟩ Hc
  unfold accPts stPts
  iapply (wp_load_rect 𝒱₀ (c : Thread nD τ) none Set.univ (m := accM) (r := rAll b) (Finset.subset_univ _)) $$ Ha; iintro Ha
  iapply (wp_load_rect 𝒱₀ (c : Thread nD τ) none Set.univ (m := accM) (r := rSums b) (Finset.subset_univ _)) $$ Ha; iintro Ha
  iapply (wp_load_rect 𝒱₀ (c : Thread nD τ) none Set.univ (m := woM) (r := rWo) (Finset.subset_univ _)) $$ Hw; iintro Hw
  iapply (wp_load_rect 𝒱₀ (c : Thread nD τ) none Set.univ (m := outM) (r := rX b) (Finset.subset_univ _)) $$ Ho; iintro Ho
  iapply (wp_store 𝒱₀ (c : Thread nD τ) none Set.univ (m := outM) (r := rX b) (Mk := Finset.univ) (Finset.subset_univ _)) $$ Ho; iintro Ho
  rw [wp_ret]; imodintro
  iapply Hc
  isplitl [Ha]; · iexact Ha
  isplitl [Hw]; · iexact Hw
  unfold storeRow outRow; iexact Ho

/-! ## The handshake -/

/-- One unit, to partner `j`'s barrier, with the landing slots that partner is to write. -/
theorem wp_signal_bar (c : Dev nD) (j : Fin 4) (O O' : CellTallies nD τ sig Unit) (hO : O' = O + tallyAt (barCell (partner j c)) () 1)
    (Q : PUnit → sProp 𝕄) :
    iprop(records m K ∗ dutyTok ER (barCell (partner j c)) 0 j ∗ barPay (F := F) (partner j c) j ∗ ows c O')
      ⊢ iprop((ows c O -∗ Q ⟨⟩)
          -∗ wp frame (wpE (defs₀ (F := F)) 𝒱₀ (c : Thread nD τ) none) Set.univ (semSignalWord (partner j c) barS 1#32) Q) := by
  simp only [semSignalWord, Prog.lift, Prog.bind_op, Prog.bind_ret]
  unfold ows
  iintro ⟨#HR, Ht, Hp, ⟨%W, HO⟩⟩ Hk
  iapply (Rounds.wp_signal 𝒱₀ ER (rd m) (c : Thread nD τ) none (dst := (partner j c : Thread nD τ)) (κ := K (partner j c, 0))
      (d := j) (by rw [duties_bar]; exact Finset.mem_univ _) ((amount_bar m (partner j c) j).trans (by decide)) () O hO) $$ [HO Ht Hp]
  · isplitr; · iapply (inv_bar m K (partner j c)); iexact HR
    isplitl [HO]; · iexact HO
    isplitl [Ht]; · iexact Ht
    isplitl [Hp]; · rw [payload_bar]; iexact Hp
    iapply (reached_bar m K (partner j c)); iexact HR
  iintro HO
  rw [wp_ret]; imodintro
  iapply Hk
  iexists W; iexact HO

/-- The wait for the four partners: their landing slots. -/
theorem wp_wait_bar (c : Dev nD) (Q : PUnit → sProp 𝕄) :
    iprop(records m K ∗ levAts L lv ∗ cred (tallyAt (barCell c) () 4) ∗ atPos ER (barCell c) 0 ∅ 0 ∗ ows c (dueLast c 16))
      ⊢ iprop((((bigSep Finset.univ fun j : Fin 4 => barPay (F := F) c j) ∗ semVal (barCell c) 0 ∗ ows c (dueLast c 16)) -∗ Q ⟨⟩)
          -∗ wp frame (wpE (defs₀ (F := F)) 𝒱₀ (c : Thread nD τ) none) Set.univ (semWaitWord barS 4#32) Q) := by
  simp only [semWaitWord, Prog.lift, Prog.bind_op, Prog.bind_ret]
  unfold ows
  iintro ⟨#HR, #Hlev, Hc, Ha, ⟨%W, HO⟩⟩ Hk
  ihave #HI := (inv_bar m K c) $$ HR
  iapply (Rounds.wp_wait_rest_token 𝒱₀ ER (rd m) (c : Thread nD τ) none (κ := K (c, 0))
      (wpE_semWait_eq 𝒱₀ (c : Thread nD τ) none Set.univ) (Set.mem_univ _) () (O := dueLast c 16) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c); iexact Hlev
    iexact Ha
  iintro ⟨HO, Ha, -, Hpay⟩
  ihave Hp := (Entails.of_eq (rest_bar m c)) $$ Hpay
  imod (Rounds.cell_close ER (rd m) (Set.mem_univ (K (c, 0))) (fun h => h) (R := 0 + 1) (duties_later m (barCell c))) $$ [Ha] with Hz
  · isplitr; · iexact HI
    iexact Ha
  rw [wp_ret]; imodintro
  iapply Hk
  isplitl [Hp]; · iexact Hp
  isplitl [Hz]; · iexact Hz
  iexists _; iexact HO

end Cert.Attn

end
-- ==== Proof.Body.lean ====
/-
# The kernel's body

The steps of `prog` put together: the handshake, the two halves of the computation, the four steps of the exchange, the two
projections.
-/
module

public import proofs.«01_k».proof.Proof.Triples
public import Idealize.ShloMosaic.Lib.Ring

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The two transfer buffers, slice by slice -/

theorem set_sndSlice (s : Fin 4) : (sndSlice s).view.set = (rSlice s).set := by
  rw [show (sndSlice s).view.set = (sndM.view.slice (rSlice s)).set from View.set_reshape (sndM.view.slice (rSlice s)) squeezes_S1x136x256_S136x256.numel_eq]
  show ((View.whole cc0_scratch1).slice (rSlice s)).set = _
  rw [View.set_slice_whole]
theorem set_lndSlot (t s : Fin 4) : (lndSlot t s).view.set = (rSlot t s).set := by
  rw [show (lndSlot t s).view.set = (lndM.view.slice (rSlot t s)).set from View.set_reshape (lndM.view.slice (rSlot t s)) squeezes_S1x1x136x256_S136x256.numel_eq]
  show ((View.whole cc0_scratch2).slice (rSlot t s)).set = _
  rw [View.set_slice_whole]

theorem mem_rSlot (t s : Fin 4) (i : S4x4x136x256.Idx) : i ∈ (rSlot t s).set ↔ (i 0).val = t.val ∧ (i 1).val = s.val := by
  have h2 := (i 2).isLt
  have h3 := (i 3).isLt
  simp only [Rect.mem_set_unit, Fin.forall_fin_succ, Fin.forall_fin_zero, and_true]
  change _ < 136 at h2
  change _ < 256 at h3
  change (t.val ≤ (i 0).val ∧ (i 0).val < t.val + 1) ∧ (s.val ≤ (i 1).val ∧ (i 1).val < s.val + 1) ∧ (0 ≤ (i 2).val ∧ (i 2).val < 0 + 136) ∧ (0 ≤ (i 3).val ∧ (i 3).val < 0 + 256) ↔ _
  omega

abbrev sndSet (s : Fin 4) : Finset S2x272x256.Idx := (sndSlice s).view.set
/-- The landing slots by (mask, step): slot `(t, which t j)`. -/
abbrev lndSet (jt : Fin 4 × Fin 4) : Finset S4x4x136x256.Idx := (lndSlot jt.2 (which jt.2 jt.1)).view.set
/-- The landing slots by (step, slice). -/
abbrev lndSet' (ts : Fin 4 × Fin 4) : Finset S4x4x136x256.Idx := (lndSlot ts.1 ts.2).view.set

theorem sndSet_disjoint (s s' : Fin 4) (h : s ≠ s') : Disjoint (sndSet s) (sndSet s') := by
  refine Finset.disjoint_left.mpr fun i h1 h2 => h ?_
  unfold sndSet at h1 h2
  rw [set_sndSlice] at h1 h2
  exact Fin.ext (((mem_rSlice s i).mp h1).symm.trans ((mem_rSlice s' i).mp h2))
theorem sndSet_cover : Finset.univ.biUnion sndSet = Finset.univ := by
  refine Finset.eq_univ_iff_forall.mpr fun i => Finset.mem_biUnion.mpr ?_
  have h0 : (i 0).val < 2 := (i 0).isLt
  have h1 : (i 1).val < 272 := (i 1).isLt
  refine ⟨⟨2 * (i 0).val + (i 1).val / 136, by omega⟩, Finset.mem_univ _, ?_⟩
  unfold sndSet
  rw [set_sndSlice]
  exact (mem_rSlice _ i).mpr rfl

theorem lndSet'_disjoint (a b : Fin 4 × Fin 4) (h : a ≠ b) : Disjoint (lndSet' a) (lndSet' b) := by
  refine Finset.disjoint_left.mpr fun i h1 h2 => h ?_
  unfold lndSet' at h1 h2
  rw [set_lndSlot] at h1 h2
  have e1 := (mem_rSlot _ _ i).mp h1
  have e2 := (mem_rSlot _ _ i).mp h2
  exact Prod.ext (Fin.ext (e1.1.symm.trans e2.1)) (Fin.ext (e1.2.symm.trans e2.2))
theorem lndSet'_cover : Finset.univ.biUnion lndSet' = Finset.univ := by
  refine Finset.eq_univ_iff_forall.mpr fun i => Finset.mem_biUnion.mpr ?_
  refine ⟨(⟨(i 0).val, (i 0).isLt⟩, ⟨(i 1).val, (i 1).isLt⟩), Finset.mem_univ _, ?_⟩
  unfold lndSet'
  rw [set_lndSlot]
  exact (mem_rSlot _ _ i).mpr ⟨rfl, rfl⟩

theorem lndSet_disjoint (a b : Fin 4 × Fin 4) (h : a ≠ b) : Disjoint (lndSet a) (lndSet b) :=
  lndSet'_disjoint (a.2, which a.2 a.1) (b.2, which b.2 b.1) fun e => h (by
    have e2 : a.2 = b.2 := congrArg Prod.fst e
    have e1 : which a.2 a.1 = which b.2 b.1 := congrArg Prod.snd e
    rw [e2] at e1
    refine Prod.ext ?_ e2
    rw [← which_which b.2 a.1, e1, which_which])
theorem lndSet_cover : Finset.univ.biUnion lndSet = Finset.univ := by
  refine Finset.eq_univ_iff_forall.mpr fun i => ?_
  obtain ⟨⟨t, s⟩, -, h⟩ := Finset.mem_biUnion.mp (lndSet'_cover ▸ Finset.mem_univ i)
  refine Finset.mem_biUnion.mpr ⟨(which t s, t), Finset.mem_univ _, ?_⟩
  show i ∈ (lndSlot t (which t (which t s))).view.set
  rw [which_which]; exact h

theorem snd_pack (c : Dev nD) (s : Fin 4) (f : Snd F) : sndPts c s f ⊢ (sendPay (F := F) s c : sProp 𝕄) := by
  unfold sendPay; iintro H; iexists f; iexact H
theorem lnd_pack (c : Dev nD) (t s : Fin 4) (f : Lnd F) : lndPts c t s f ⊢ (iprop(∃ f, lndPts (F := F) c t s f) : sProp 𝕄) := by
  iintro H; iexists f; iexact H

theorem snd_split (c : Dev nD) (f : Snd F) :
    (((c : Thread nD τ).loc cc0_scratch1) ↦{fullShare} f : sProp 𝕄) ⊢ bigSep Finset.univ fun s : Fin 4 => sendPay (F := F) s c := by
  rw [Ring.pointsTo_blocks (ℓ := (c : Thread nD τ).loc cc0_scratch1) sndSet sndSet_disjoint sndSet_cover f]
  exact bigSep_mono fun s _ => snd_pack c s f

theorem snd_join (c : Dev nD) :
    (bigSep Finset.univ fun s : Fin 4 => sendPay (F := F) s c) ⊢ (iprop(∃ f, ((c : Thread nD τ).loc cc0_scratch1) ↦{fullShare} f) : sProp 𝕄) := by
  unfold sendPay sndPts
  exact Ring.pointsTo_blocks_join_exists (ℓ := (c : Thread nD τ).loc cc0_scratch1) sndSet sndSet_disjoint sndSet_cover
    ((fun _ => FloatOps.ofBits .bf16 0#16) : Snd F)

theorem lnd_split (c : Dev nD) (f : Lnd F) :
    (((c : Thread nD τ).loc cc0_scratch2) ↦{fullShare} f : sProp 𝕄) ⊢ bigSep Finset.univ fun j : Fin 4 => barPay (F := F) (partner j c) j := by
  rw [Ring.pointsTo_blocks (ℓ := (c : Thread nD τ).loc cc0_scratch2) lndSet lndSet_disjoint lndSet_cover f, bigSep_univ_prod]
  refine bigSep_mono fun j _ => ?_
  unfold barPay
  refine bigSep_mono fun t _ => ?_
  rw [partner_partner]
  exact lnd_pack c t (which t j) f

theorem lnd_join (c : Dev nD) :
    (bigSep Finset.univ fun t : Fin 4 => bigSep Finset.univ fun s : Fin 4 => iprop(∃ f, lndPts (F := F) c t s f))
      ⊢ (iprop(∃ f, ((c : Thread nD τ).loc cc0_scratch2) ↦{fullShare} f) : sProp 𝕄) := by
  rw [← bigSep_univ_prod (fun ts : Fin 4 × Fin 4 => (iprop(∃ f, lndPts (F := F) c ts.1 ts.2 f) : sProp 𝕄))]
  unfold lndPts
  exact Ring.pointsTo_blocks_join_exists (ℓ := (c : Thread nD τ).loc cc0_scratch2) lndSet' lndSet'_disjoint lndSet'_cover
    ((fun _ => FloatOps.ofBits .bf16 0#16) : Lnd F)

theorem by_step (Φ : Fin 4 → Fin 4 → sProp 𝕄) :
    (bigSep Finset.univ fun j : Fin 4 => bigSep Finset.univ fun t : Fin 4 => Φ j t : sProp 𝕄)
      = bigSep Finset.univ fun t : Fin 4 => bigSep Finset.univ fun j : Fin 4 => Φ j t := by
  rw [← bigSep_univ_prod (fun x : Fin 4 × Fin 4 => Φ x.1 x.2), bigSep_univ_equiv (Equiv.prodComm (Fin 4) (Fin 4)) (fun x : Fin 4 × Fin 4 => Φ x.1 x.2),
    bigSep_univ_prod]
  rfl

/-- The slots the four partners hand over are the sixteen to be written, by step and slice. -/
theorem free_of_bar (c : Dev nD) :
    (bigSep Finset.univ fun j : Fin 4 => barPay (F := F) c j) ⊢ (bigSep Finset.univ fun t : Fin 4 => bigSep Finset.univ fun s : Fin 4 => free c t s : sProp 𝕄) := by
  unfold barPay free
  rw [by_step (F := F)]
  refine bigSep_mono fun t _ => ?_
  have e : (bigSep Finset.univ fun j : Fin 4 => (iprop(∃ f, lndPts (F := F) (partner j c) t (which t j) f) : sProp 𝕄))
      = bigSep Finset.univ fun s : Fin 4 => (iprop(∃ f, lndPts (F := F) (partner (which t s) c) t s f) : sProp 𝕄) := by
    rw [bigSep_univ_equiv (⟨which t, which t, which_which t, which_which t⟩ : Fin 4 ≃ Fin 4)
      (fun j : Fin 4 => (iprop(∃ f, lndPts (F := F) (partner j c) t (which t j) f) : sProp 𝕄))]
    refine bigSep_congr fun s _ => ?_
    show iprop(∃ f, lndPts (F := F) (partner (which t s) c) t (which t (which t s)) f) = _
    rw [which_which]
  exact Entails.of_eq e

/-! ## One step of the exchange -/

theorem due_step (c : Dev nD) (t s : Fin 4) (k : ℕ) (h : k + (4 * t.val + s.val) = 15) : dueLast c (k + 1) = dueLast c k + due c t s := by
  have e1 : Fin.ofNat 4 ((15 - k) / 4) = t := Fin.ext (by show (15 - k) / 4 % 4 = _; omega)
  have e2 : Fin.ofNat 4 ((15 - k) % 4) = s := Fin.ext (by show (15 - k) % 4 % 4 = _; omega)
  show dueLast c k + due c (Fin.ofNat 4 ((15 - k) / 4)) (Fin.ofNat 4 ((15 - k) % 4)) = _
  rw [e1, e2]

variable (K : Dev nD × Fin 33 → ℕ)

theorem val2 : (2 : Fin 4).val = 2 := rfl
theorem val3 : (3 : Fin 4).val = 3 := rfl

/-- The four slices after one more of them has been received. -/
abbrev upd (c : Dev nD) (t : ℕ) (v : Fin 4 → Vec F S1x136x256 .f32) (s : Fin 4) : Fin 4 → Vec F S1x136x256 .f32 := Function.update v s (A m t s c)

theorem upd_self (c : Dev nD) (t : ℕ) (v : Fin 4 → Vec F S1x136x256 .f32) (s : Fin 4) : upd m c t v s s = A m t s c := Function.update_self _ _ _
theorem upd_ne (c : Dev nD) (t : ℕ) (v : Fin 4 → Vec F S1x136x256 .f32) {s s' : Fin 4} (h : s' ≠ s) : upd m c t v s s' = v s' := Function.update_of_ne h _ _
theorem upd_all (c : Dev nD) (t : ℕ) (v : Fin 4 → Vec F S1x136x256 .f32) : upd m c t (upd m c t (upd m c t (upd m c t v 0) 1) 2) 3 = fun s => A m t s c := by
  funext s
  match s with
  | 0 => rw [upd_ne _ _ _ _ (by decide), upd_ne _ _ _ _ (by decide), upd_ne _ _ _ _ (by decide), upd_self]
  | 1 => rw [upd_ne _ _ _ _ (by decide), upd_ne _ _ _ _ (by decide), upd_self]
  | 2 => rw [upd_ne _ _ _ _ (by decide), upd_self]
  | 3 => rw [upd_self]

/-- Receive slice `s` of step `t`, and start its transfer of step `t'`, the next. -/
theorem wp_turn (c : Dev nD) (t t' s : Fin 4) (ht : t'.val = t.val + 1) (k : ℕ) (hk : k + (4 * t'.val + s.val) = 15)
    (v : Fin 4 → Vec F S1x136x256 .f32) (hv : v s = A m t.val s c) {α : Type} (p : P F α) (Q : α → sProp 𝕄) :
    iprop(records m K ∗ levAts L lv ∗ accPts c (joined v) ∗ flight c t s ∗ tick c t' s ∗ free c t' s ∗ ows c (dueLast c (k + 1)))
      ⊢ iprop(((accPts c (joined (upd m c t'.val v s)) ∗ done c t s ∗ flight c t' s ∗ ows c (dueLast c k))
            -∗ wp frame (wpE (defs₀ (F := F)) 𝒱₀ (c : Thread nD τ) none) Set.univ p Q)
          -∗ wp frame (wpE (defs₀ (F := F)) 𝒱₀ (c : Thread nD τ) none) Set.univ (receive t s >>= fun _ => exchange c t' s >>= fun _ => p) Q) := by
  rw [wp_bind]
  iintro ⟨#HR, #Hlev, Ha, Hf, Ht, Hn, HO⟩ Hk
  iapply (wp_receive m K c t s v hv (k + 1) (by omega) (by omega)) $$ [Ha Hf HO]
  · isplitr; · iexact HR
    isplitr; · iexact Hlev
    isplitl [Ha]; · iexact Ha
    isplitl [Hf] <;> iassumption
  iintro ⟨Ha, Hs, Hd, HO⟩
  rw [wp_bind]
  iapply (wp_exchange m K c t' s (joined (upd m c t'.val v s)) (by rw [sl_joined, upd_self]) (dueLast c k) (dueLast c (k + 1)) (due_step c t' s k hk))
    $$ [Ha Hs Ht Hn HO]
  · isplitr; · iexact HR
    isplitl [Ha]; · rw [ht]; iexact Ha
    isplitl [Hs]; · iexact Hs
    isplitl [Ht]; · iexact Ht
    isplitl [Hn] <;> iassumption
  iintro ⟨Ha, Hf, HO⟩
  iapply Hk
  isplitl [Ha]; · iexact Ha
  isplitl [Hd]; · iexact Hd
  isplitl [Hf] <;> iassumption

abbrev all (Φ : Fin 4 → sProp 𝕄) : sProp 𝕄 := bigSep Finset.univ Φ

theorem round_eq (c : Dev nD) (t t' : Fin 4) : round (F := F) c t t'
    = (receive t 0 >>= fun _ => exchange c t' 0 >>= fun _ => receive t 1 >>= fun _ => exchange c t' 1 >>= fun _ =>
      receive t 2 >>= fun _ => exchange c t' 2 >>= fun _ => receive t 3 >>= fun _ => exchange c t' 3 >>= fun _ => Prog.ret ⟨⟩) := rfl

/-- One round of four slices: each is received, and its next exchange started. -/
theorem wp_round (c : Dev nD) (t t' : Fin 4) (ht : t'.val = t.val + 1) (k : ℕ) (hk : k + (4 * t'.val + 3) = 15) (Q : PUnit → sProp 𝕄) :
    iprop(records m K ∗ levAts L lv ∗ accPts c (joined fun s => A m t.val s c) ∗ all (flight c t) ∗ all (tick c t') ∗ all (free c t') ∗ ows c (dueLast c (k + 4)))
      ⊢ iprop(((accPts c (joined fun s => A m t'.val s c) ∗ all (done c t) ∗ all (flight c t') ∗ ows c (dueLast c k)) -∗ Q ⟨⟩)
          -∗ wp frame (wpE (defs₀ (F := F)) 𝒱₀ (c : Thread nD τ) none) Set.univ (round c t t') Q) := by
  rw [round_eq]
  simp only [bigSep_four]
  iintro ⟨#HR, #Hlev, Ha, ⟨Hf0, Hf1, Hf2, Hf3⟩, ⟨Ht0, Ht1, Ht2, Ht3⟩, ⟨Hn0, Hn1, Hn2, Hn3⟩, HO⟩ Hk
  iapply (wp_turn m K c t t' 0 ht (k + 3) (by simp only [Fin.val_zero]; omega) (fun s => A m t.val s c) rfl) $$ [Ha Hf0 Ht0 Hn0 HO]
  · isplitr; · iexact HR
    isplitr; · iexact Hlev
    isplitl [Ha]; · iexact Ha
    isplitl [Hf0]; · iexact Hf0
    isplitl [Ht0]; · iexact Ht0
    isplitl [Hn0] <;> iassumption
  iintro ⟨Ha, Hd0, Hf0, HO⟩
  iapply (wp_turn m K c t t' 1 ht (k + 2) (by simp only [Fin.val_one]; omega) (upd m c t'.val (fun s => A m t.val s c) 0) (by rw [upd_ne _ _ _ _ (by decide)])) $$ [Ha Hf1 Ht1 Hn1 HO]
  · isplitr; · iexact HR
    isplitr; · iexact Hlev
    isplitl [Ha]; · iexact Ha
    isplitl [Hf1]; · iexact Hf1
    isplitl [Ht1]; · iexact Ht1
    isplitl [Hn1] <;> iassumption
  iintro ⟨Ha, Hd1, Hf1, HO⟩
  iapply (wp_turn m K c t t' 2 ht (k + 1) (by rw [val2]; omega) (upd m c t'.val (upd m c t'.val (fun s => A m t.val s c) 0) 1) (by rw [upd_ne _ _ _ _ (by decide), upd_ne _ _ _ _ (by decide)])) $$ [Ha Hf2 Ht2 Hn2 HO]
  · isplitr; · iexact HR
    isplitr; · iexact Hlev
    isplitl [Ha]; · iexact Ha
    isplitl [Hf2]; · iexact Hf2
    isplitl [Ht2]; · iexact Ht2
    isplitl [Hn2] <;> iassumption
  iintro ⟨Ha, Hd2, Hf2, HO⟩
  iapply (wp_turn m K c t t' 3 ht k (by rw [val3]; omega) (upd m c t'.val (upd m c t'.val (upd m c t'.val (fun s => A m t.val s c) 0) 1) 2) (by rw [upd_ne _ _ _ _ (by decide), upd_ne _ _ _ _ (by decide), upd_ne _ _ _ _ (by decide)])) $$ [Ha Hf3 Ht3 Hn3 HO]
  · isplitr; · iexact HR
    isplitr; · iexact Hlev
    isplitl [Ha]; · iexact Ha
    isplitl [Hf3]; · iexact Hf3
    isplitl [Ht3]; · iexact Ht3
    isplitl [Hn3] <;> iassumption
  iintro ⟨Ha, Hd3, Hf3, HO⟩
  rw [upd_all, wp_ret]; imodintro
  iapply Hk
  isplitl [Ha]; · iexact Ha
  isplitl [Hd0 Hd1 Hd2 Hd3]
  · isplitl [Hd0]; · iexact Hd0
    isplitl [Hd1]; · iexact Hd1
    isplitl [Hd2] <;> iassumption
  isplitr [HO]
  · isplitl [Hf0]; · iexact Hf0
    isplitl [Hf1]; · iexact Hf1
    isplitl [Hf2] <;> iassumption
  iexact HO

/-- Receive slice `s` of the last step. -/
theorem wp_last (c : Dev nD) (s : Fin 4) (v : Fin 4 → Vec F S1x136x256 .f32) (hv : v s = A m 3 s c) (Q : PUnit → sProp 𝕄) :
    iprop(records m K ∗ levAts L lv ∗ accPts c (joined v) ∗ flight c 3 s ∗ ows c (dueLast c 0))
      ⊢ iprop(((accPts c (joined (upd m c 4 v s)) ∗ sendPay s c ∗ done c 3 s ∗ ows c (dueLast c 0)) -∗ Q ⟨⟩)
          -∗ wp frame (wpE (defs₀ (F := F)) 𝒱₀ (c : Thread nD τ) none) Set.univ (receive 3 s) Q) :=
  wp_receive m K c 3 s v hv 0 (by omega) (by decide) Q

/-- The last round: each slice is received, and each batch row projected when both its slices are in. -/
theorem wp_lastRound (c : Dev nD) (o : (cc0_stg5_0 : Ref sig .tc).ty.Contents (Elt F)) (Q : PUnit → sProp 𝕄) :
    iprop(records m K ∗ levAts L lv ∗ accPts c (joined fun s => A m 3 s c) ∗ all (flight c 3) ∗ ows c (dueLast c 0)
        ∗ stPts c cc0_stg4_0 (woIn m c) ∗ stPts c cc0_stg5_0 o)
      ⊢ iprop((((∃ f, accPts c f) ∗ all (done c 3) ∗ (all fun s => sendPay s c) ∗ ows c (dueLast c 0)
            ∗ stPts c cc0_stg4_0 (woIn m c) ∗ stPts c cc0_stg5_0 (outAt m c)) -∗ Q ⟨⟩)
          -∗ wp frame (wpE (defs₀ (F := F)) 𝒱₀ (c : Thread nD τ) none) Set.univ lastRound Q) := by
  unfold lastRound
  simp only [bigSep_four]
  iintro ⟨#HR, #Hlev, Ha, ⟨Hf0, Hf1, Hf2, Hf3⟩, HO, Hw, Ho⟩ Hk
  rw [wp_bind]
  iapply (wp_last m K c 0 (fun s => A m 3 s c) rfl) $$ [Ha Hf0 HO]
  · isplitr; · iexact HR
    isplitr; · iexact Hlev
    isplitl [Ha]; · iexact Ha
    isplitl [Hf0] <;> iassumption
  iintro ⟨Ha, Hs0, Hd0, HO⟩
  rw [wp_bind]
  iapply (wp_last m K c 1 (upd m c 4 (fun s => A m 3 s c) 0) (by rw [upd_ne _ _ _ _ (by decide)])) $$ [Ha Hf1 HO]
  · isplitr; · iexact HR
    isplitr; · iexact Hlev
    isplitl [Ha]; · iexact Ha
    isplitl [Hf1] <;> iassumption
  iintro ⟨Ha, Hs1, Hd1, HO⟩
  rw [wp_bind]
  iapply (wp_project m c 0) $$ [Ha Hw Ho]
  · isplitl [Ha]; · iexact Ha
    isplitl [Hw] <;> iassumption
  iintro ⟨Ha, Hw, Ho⟩
  rw [wp_bind]
  iapply (wp_last m K c 2 (upd m c 4 (upd m c 4 (fun s => A m 3 s c) 0) 1) (by rw [upd_ne _ _ _ _ (by decide), upd_ne _ _ _ _ (by decide)])) $$ [Ha Hf2 HO]
  · isplitr; · iexact HR
    isplitr; · iexact Hlev
    isplitl [Ha]; · iexact Ha
    isplitl [Hf2] <;> iassumption
  iintro ⟨Ha, Hs2, Hd2, HO⟩
  rw [wp_bind]
  iapply (wp_last m K c 3 (upd m c 4 (upd m c 4 (upd m c 4 (fun s => A m 3 s c) 0) 1) 2) (by rw [upd_ne _ _ _ _ (by decide), upd_ne _ _ _ _ (by decide), upd_ne _ _ _ _ (by decide)])) $$ [Ha Hf3 HO]
  · isplitr; · iexact HR
    isplitr; · iexact Hlev
    isplitl [Ha]; · iexact Ha
    isplitl [Hf3] <;> iassumption
  iintro ⟨Ha, Hs3, Hd3, HO⟩
  iapply (wp_project m c 1) $$ [Ha Hw Ho]
  · isplitl [Ha]; · iexact Ha
    isplitl [Hw] <;> iassumption
  iintro ⟨Ha, Hw, Ho⟩
  rw [storeRow_both m c _ _ o (fun s hs => by
      rw [sl_joined]
      match s, hs with
      | 0, _ => rw [upd_ne _ _ _ _ (by decide), upd_self]
      | 1, _ => rw [upd_self])
    (fun s => by rw [sl_joined, upd_all])]
  iapply Hk
  isplitl [Ha]; · iexists _; iexact Ha
  isplitl [Hd0 Hd1 Hd2 Hd3]
  · isplitl [Hd0]; · iexact Hd0
    isplitl [Hd1]; · iexact Hd1
    isplitl [Hd2] <;> iassumption
  isplitl [Hs0 Hs1 Hs2 Hs3]
  · isplitl [Hs0]; · iexact Hs0
    isplitl [Hs1]; · iexact Hs1
    isplitl [Hs2] <;> iassumption
  isplitl [HO]; · iexact HO
  isplitl [Hw] <;> iassumption

/-- The four signals to the partners' barriers. -/
theorem wp_announce (c : Dev nD) (Q : PUnit → sProp 𝕄) :
    iprop(records m K ∗ (all fun j => dutyTok ER (barCell (partner j c)) 0 j) ∗ (all fun j => barPay (F := F) (partner j c) j) ∗ ows c (O₀ c))
      ⊢ iprop((ows c (dueLast c 16) -∗ Q ⟨⟩) -∗ wp frame (wpE (defs₀ (F := F)) 𝒱₀ (c : Thread nD τ) none) Set.univ (announce c) Q) := by
  unfold announce
  simp only [bigSep_four]
  iintro ⟨#HR, ⟨Ht0, Ht1, Ht2, Ht3⟩, ⟨Hp0, Hp1, Hp2, Hp3⟩, HO⟩ Hk
  rw [wp_bind]
  iapply (wp_signal_bar m K c 0 (owedBar c 3) (O₀ c) rfl) $$ [Ht0 Hp0 HO]
  · isplitr; · iexact HR
    isplitl [Ht0]; · iexact Ht0
    isplitl [Hp0] <;> iassumption
  iintro HO
  rw [wp_bind]
  iapply (wp_signal_bar m K c 1 (owedBar c 2) (owedBar c 3) rfl) $$ [Ht1 Hp1 HO]
  · isplitr; · iexact HR
    isplitl [Ht1]; · iexact Ht1
    isplitl [Hp1] <;> iassumption
  iintro HO
  rw [wp_bind]
  iapply (wp_signal_bar m K c 2 (owedBar c 1) (owedBar c 2) rfl) $$ [Ht2 Hp2 HO]
  · isplitr; · iexact HR
    isplitl [Ht2]; · iexact Ht2
    isplitl [Hp2] <;> iassumption
  iintro HO
  iapply (wp_signal_bar m K c 3 (dueLast c 16) (owedBar c 1) rfl) $$ [Ht3 Hp3 HO]
  · isplitr; · iexact HR
    isplitl [Ht3]; · iexact Ht3
    isplitl [Hp3] <;> iassumption
  iintro HO
  iapply Hk; iexact HO

/-! ## The whole body -/

/-- What a device uses of the handshake: its position, the duties it pays, its credit. -/
def barTick (c : Dev nD) : sProp 𝕄 :=
  iprop(atPos ER (barCell c) 0 ∅ 0 ∗ (all fun j => dutyTok ER (barCell (partner j c)) 0 j) ∗ cred (tallyAt (barCell c) () 4))

/-- The six staged blocks, the output's holding `o`. -/
def staged (c : Dev nD) (o : (cc0_stg5_0 : Ref sig .tc).ty.Contents (Elt F)) : sProp 𝕄 :=
  iprop(stPts c cc0_stg0_0 (xIn m c) ∗ stPts c cc0_stg1_0 (wqIn m c) ∗ stPts c cc0_stg2_0 (kIn m c) ∗ stPts c cc0_stg3_0 (vIn m c)
    ∗ stPts c cc0_stg4_0 (woIn m c) ∗ stPts c cc0_stg5_0 o)

/-- The three scratch buffers at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- All thirty-three semaphores at zero. -/
def sems (c : Dev nD) : sProp 𝕄 :=
  iprop(semVal (barCell c) 0 ∗ (all fun t => all fun s => semVal (sendCell t s c) 0) ∗ all fun t => all fun s => semVal (recvCell t s c) 0)

theorem dones_split (c : Dev nD) :
    (all fun t => all fun s => done (F := F) c t s)
      = iprop((all fun t => all fun s => semVal (sendCell t s c) 0) ∗ (all fun t => all fun s => semVal (recvCell t s c) 0)
          ∗ all fun t => all fun s => iprop(∃ f, lndPts (F := F) c t s f)) := by
  unfold done all
  simp only [bigSep_sep']

/-- The whole body, from its arguments and scratch to the result. -/
theorem wp_prog (c : Dev nD) (o : (cc0_stg5_0 : Ref sig .tc).ty.Contents (Elt F)) (Q : PUnit → sProp 𝕄) :
    iprop(records m K ∗ levAts L lv ∗ barTick c ∗ (all fun t => all (tick c t)) ∗ scratch (F := F) c ∗ staged m c o ∗ ows c (O₀ c))
      ⊢ iprop(((scratch (F := F) c ∗ sems c ∗ staged m c (outAt m c) ∗ ows c 0) -∗ Q ⟨⟩)
          -∗ wp frame (wpE (defs₀ (F := F)) 𝒱₀ (c : Thread nD τ) none) Set.univ prog Q) := by
  unfold prog
  simp only [Prog.lift, Prog.bind_op, Prog.bind_ret, wp_deviceId]
  unfold barTick staged scratch
  iintro ⟨#HR, #Hlev, ⟨HaB, HtB, HcB⟩, Ht, ⟨⟨%f0, Ha⟩, ⟨%f1, Hs⟩, ⟨%f2, Hl⟩⟩, ⟨Hx, Hwq, Hk, Hv, Hwo, Ho⟩, HO⟩ HQ
  ihave Hs := (snd_split (F := F) c f1) $$ Hs
  ihave Hl := (lnd_split (F := F) c f2) $$ Hl
  ihave Hs := (Entails.of_eq (bigSep_four (F := F) _)) $$ Hs
  ihave Ht := (Entails.of_eq (bigSep_four (F := F) _)) $$ Ht
  icases Hs with ⟨Hs0, Hs1, Hs2, Hs3⟩
  icases Ht with ⟨Ht0, Ht1, Ht2, Ht3⟩
  ihave Ht0 := (Entails.of_eq (bigSep_four (F := F) _)) $$ Ht0
  icases Ht0 with ⟨Ht00, Ht01, Ht02, Ht03⟩
  rw [wp_bind]
  iapply (wp_announce m K c) $$ [HtB Hl HO]
  · isplitr; · iexact HR
    isplitl [HtB]; · iexact HtB
    isplitl [Hl] <;> iassumption
  iintro HO
  rw [wp_bind]
  iapply (wp_partialRow m c 0 f0) $$ [Ha Hx Hwq Hk Hv]
  · unfold accPts
    isplitl [Ha]; · iexact Ha
    isplitl [Hx]; · iexact Hx
    isplitl [Hwq]; · iexact Hwq
    isplitl [Hk] <;> iassumption
  iintro ⟨Ha, Hx, Hwq, Hk, Hv⟩
  rw [wp_bind]
  iapply (wp_wait_bar m K c) $$ [HcB HaB HO]
  · isplitr; · iexact HR
    isplitr; · iexact Hlev
    isplitl [HcB]; · iexact HcB
    isplitl [HaB] <;> iassumption
  iintro ⟨Hp, HzB, HO⟩
  ihave Hn := (free_of_bar (F := F) c) $$ Hp
  ihave Hn := (Entails.of_eq (bigSep_four (F := F) _)) $$ Hn
  icases Hn with ⟨Hn0, Hn1, Hn2, Hn3⟩
  ihave Hn0 := (Entails.of_eq (bigSep_four (F := F) _)) $$ Hn0
  icases Hn0 with ⟨Hn00, Hn01, Hn02, Hn03⟩
  rw [wp_bind]
  iapply (wp_exchange m K c 0 0 (rowOf m c 0 f0) (sl_row0 m c f0 0 (by decide)) (dueLast c 15) (dueLast c 16) (due_step c 0 0 15 rfl)) $$ [Ha Hs0 Ht00 Hn00 HO]
  · isplitr; · iexact HR
    isplitl [Ha]; · iexact Ha
    isplitl [Hs0]; · iexact Hs0
    isplitl [Ht00]; · iexact Ht00
    isplitl [Hn00] <;> iassumption
  iintro ⟨Ha, Hf0, HO⟩
  rw [wp_bind]
  iapply (wp_exchange m K c 0 1 (rowOf m c 0 f0) (sl_row0 m c f0 1 (by decide)) (dueLast c 14) (dueLast c 15) (due_step c 0 1 14 rfl)) $$ [Ha Hs1 Ht01 Hn01 HO]
  · isplitr; · iexact HR
    isplitl [Ha]; · iexact Ha
    isplitl [Hs1]; · iexact Hs1
    isplitl [Ht01]; · iexact Ht01
    isplitl [Hn01] <;> iassumption
  iintro ⟨Ha, Hf1, HO⟩
  rw [wp_bind]
  iapply (wp_partialRow m c 1 (rowOf m c 0 f0)) $$ [Ha Hx Hwq Hk Hv]
  · isplitl [Ha]; · iexact Ha
    isplitl [Hx]; · iexact Hx
    isplitl [Hwq]; · iexact Hwq
    isplitl [Hk] <;> iassumption
  iintro ⟨Ha, Hx, Hwq, Hk, Hv⟩
  rw [wp_bind]
  iapply (wp_exchange m K c 0 2 (rowOf m c 1 (rowOf m c 0 f0)) (sl_row1 m c f0 2) (dueLast c 13) (dueLast c 14) (due_step c 0 2 13 rfl)) $$ [Ha Hs2 Ht02 Hn02 HO]
  · isplitr; · iexact HR
    isplitl [Ha]; · iexact Ha
    isplitl [Hs2]; · iexact Hs2
    isplitl [Ht02]; · iexact Ht02
    isplitl [Hn02] <;> iassumption
  iintro ⟨Ha, Hf2, HO⟩
  rw [wp_bind]
  iapply (wp_exchange m K c 0 3 (rowOf m c 1 (rowOf m c 0 f0)) (sl_row1 m c f0 3) (dueLast c 12) (dueLast c 13) (due_step c 0 3 12 rfl)) $$ [Ha Hs3 Ht03 Hn03 HO]
  · isplitr; · iexact HR
    isplitl [Ha]; · iexact Ha
    isplitl [Hs3]; · iexact Hs3
    isplitl [Ht03]; · iexact Ht03
    isplitl [Hn03] <;> iassumption
  iintro ⟨Ha, Hf3, HO⟩
  rw [show rowOf m c 1 (rowOf m c 0 f0) = joined fun s => A m (0 : Fin 4).val s c from by
    rw [← joined_sl (rowOf m c 1 (rowOf m c 0 f0))]; exact congrArg joined (funext fun s => sl_row1 m c f0 s)]
  rw [wp_bind]
  iapply (wp_round m K c 0 1 rfl 8 rfl) $$ [Ha Hf0 Hf1 Hf2 Hf3 Ht1 Hn1 HO]
  · isplitr; · iexact HR
    isplitr; · iexact Hlev
    isplitl [Ha]; · iexact Ha
    isplitl [Hf0 Hf1 Hf2 Hf3]
    · simp only [all, bigSep_four]
      isplitl [Hf0]; · iexact Hf0
      isplitl [Hf1]; · iexact Hf1
      isplitl [Hf2] <;> iassumption
    isplitl [Ht1]; · iexact Ht1
    isplitl [Hn1] <;> iassumption
  iintro ⟨Ha, Hd0, Hf, HO⟩
  rw [wp_bind]
  iapply (wp_round m K c 1 2 rfl 4 rfl) $$ [Ha Hf Ht2 Hn2 HO]
  · isplitr; · iexact HR
    isplitr; · iexact Hlev
    isplitl [Ha]; · iexact Ha
    isplitl [Hf]; · iexact Hf
    isplitl [Ht2]; · iexact Ht2
    isplitl [Hn2] <;> iassumption
  iintro ⟨Ha, Hd1, Hf, HO⟩
  rw [wp_bind]
  iapply (wp_round m K c 2 3 rfl 0 rfl) $$ [Ha Hf Ht3 Hn3 HO]
  · isplitr; · iexact HR
    isplitr; · iexact Hlev
    isplitl [Ha]; · iexact Ha
    isplitl [Hf]; · iexact Hf
    isplitl [Ht3]; · iexact Ht3
    isplitl [Hn3] <;> iassumption
  iintro ⟨Ha, Hd2, Hf, HO⟩
  iapply (wp_lastRound m K c o) $$ [Ha Hf HO Hwo Ho]
  · isplitr; · iexact HR
    isplitr; · iexact Hlev
    isplitl [Ha]; · iexact Ha
    isplitl [Hf]; · iexact Hf
    isplitl [HO]; · iexact HO
    isplitl [Hwo] <;> iassumption
  iintro ⟨⟨%f3, Ha⟩, Hd3, Hs, HO, Hwo, Ho⟩
  iapply HQ
  ihave Hd := (Entails.of_eq ((bigSep_four (F := F) (fun t => all (done c t))).symm.trans (dones_split c))) $$ [Hd0 Hd1 Hd2 Hd3]
  · isplitl [Hd0]; · iexact Hd0
    isplitl [Hd1]; · iexact Hd1
    isplitl [Hd2] <;> iassumption
  icases Hd with ⟨HzS, HzV, Hl⟩
  unfold sems
  isplitl [Ha Hs Hl]
  · isplitl [Ha]; · (unfold accPts; iexists f3; iexact Ha)
    isplitl [Hs]; · iapply (snd_join (F := F) c); iexact Hs
    iapply (lnd_join (F := F) c); iexact Hl
  isplitl [HzB HzS HzV]
  · isplitl [HzB]; · iexact HzB
    isplitl [HzS] <;> iassumption
  isplitr [HO]
  · isplitl [Hx]; · iexact Hx
    isplitl [Hwq]; · iexact Hwq
    isplitl [Hk]; · iexact Hk
    isplitl [Hv]; · iexact Hv
    isplitl [Hwo] <;> iassumption
  iexact HO

end Cert.Attn

end
-- ==== Proof.Run.lean ====
/-
# The run

The body on every device put together: what the launch deals each device, and what every final state holds.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device's body starts from, besides its buffers. -/
def start (c : Dev nD) : sProp 𝕄 :=
  iprop((∃ K, records m K) ∗ levAts L lv ∗ barTick c ∗ all fun t => all (tick c t))

def Φ₀ (c : Dev nD) : sProp 𝕄 := iprop(start m c ∗ scratch (F := F) c)
def Φ₁ (c : Dev nD) : sProp 𝕄 := iprop(scratch (F := F) c ∗ sems c)

def dats (_ : Fin 1) (c : Dev nD) : Dat τ (Elt F) Unit ℕ UU ℕ cfg0 c where
  A w := (MemSt.mk m (fun _ => 0) ρ).mem ((cfg0.win w).arr.view.loc (c : Thread nD τ))
  after w _ := match w with
    | ⟨0, _⟩ => xIn m c
    | ⟨1, _⟩ => wqIn m c
    | ⟨2, _⟩ => kIn m c
    | ⟨3, _⟩ => vIn m c
    | ⟨4, _⟩ => woIn m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_eq (c : Dev nD) (b : Ref sig .tc) (X : b.ty.Contents (Elt F)) : stg c b X = stPts c b X := by
  have h1 : stg c b X ⊢ stPts c b X := by
    unfold stPts; iintro ⟨%f, %h, H⟩; subst h; iexact H
  have h2 : stPts c b X ⊢ stg c b X := by
    unfold stPts; iintro H; iexists X
    isplitr; · (ipureintro; rfl)
    iexact H
  exact equiv_iff.mp ⟨h1, h2⟩

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ ∗ stg c cc0_stg0_0 (xIn m c) ∗ stg c cc0_stg1_0 (wqIn m c) ∗ stg c cc0_stg2_0 (kIn m c)
    ∗ stg c cc0_stg3_0 (vIn m c) ∗ stg c cc0_stg4_0 (woIn m c) ∗ stg c cc0_stg5_0 (outAt m c))

theorem before_0 (c : Dev nD) (d) : (dats m ρ 0 c).before (0 : Fin 6) t₀ d = xIn m c := by unfold Dat.before; rw [if_pos (fetch0_0 t₀)]; rfl
theorem before_1 (c : Dev nD) (d) : (dats m ρ 0 c).before (1 : Fin 6) t₀ d = wqIn m c := by unfold Dat.before; rw [if_pos (fetch0_1 t₀)]; rfl
theorem before_2 (c : Dev nD) (d) : (dats m ρ 0 c).before (2 : Fin 6) t₀ d = kIn m c := by unfold Dat.before; rw [if_pos (fetch0_2 t₀)]; rfl
theorem before_3 (c : Dev nD) (d) : (dats m ρ 0 c).before (3 : Fin 6) t₀ d = vIn m c := by unfold Dat.before; rw [if_pos (fetch0_3 t₀)]; rfl
theorem before_4 (c : Dev nD) (d) : (dats m ρ 0 c).before (4 : Fin 6) t₀ d = woIn m c := by unfold Dat.before; rw [if_pos (fetch0_4 t₀)]; rfl

/-- The launched body meets its contract. -/
theorem sound_body (c : Dev nD) :
    bodyPre m ρ c ⊢ wp frame (wpE (defs₀ (F := F)) 𝒱₀ (c : Thread nD τ) none) Set.univ body (fun _ => bodyPost m ρ c) := by
  rw [body_eq]
  unfold bodyPre Φ₀ start Dat.owesAt Pipeline.owesWithin
  rw [show (dats m ρ 0 c).owed t₀.castSucc = O₀ c from rfl]
  simp only [stg_eq, before_0, before_1, before_2, before_3, before_4]
  iintro ⟨⟨⟨⟨%K, HR⟩, Hlev, Hb, Ht⟩, Hscr⟩, ⟨%W, %hW, HO⟩, ⟨%d0, H0⟩, ⟨%d1, H1⟩, ⟨%d2, H2⟩, ⟨%d3, H3⟩, ⟨%d4, H4⟩, ⟨%d5, H5⟩⟩
  iapply (wp_prog m K c ((dats m ρ 0 c).before (5 : Fin 6) t₀ d5) (fun _ => bodyPost m ρ c)) $$ [HR Hlev Hb Ht Hscr HO H0 H1 H2 H3 H4 H5]
  · isplitl [HR]; · iexact HR
    isplitl [Hlev]; · iexact Hlev
    isplitl [Hb]; · iexact Hb
    isplitl [Ht]; · iexact Ht
    isplitl [Hscr]; · iexact Hscr
    unfold staged ows
    isplitr [HO]
    · isplitl [H0]; · iexact H0
      isplitl [H1]; · iexact H1
      isplitl [H2]; · iexact H2
      isplitl [H3]; · iexact H3
      isplitl [H4] <;> iassumption
    iexists W; iexact HO
  iintro ⟨Hscr, Hz, Hst, HO⟩
  unfold bodyPost Φ₁ Dat.owesAt Pipeline.owesWithin staged ows
  rw [show (dats m ρ 0 c).owed t₀.succ = 0 from rfl]
  simp only [stg_eq]
  icases HO with ⟨%W', HO⟩
  isplitl [Hscr Hz]
  · isplitl [Hscr] <;> iassumption
  isplitl [HO]
  · iexists W'
    isplitr; · ipureintro; exact fun _ _ => Or.inl trivial
    iexact HO
  iexact Hst

set_option maxRecDepth 32768 in
/-- The pipeline's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

set_option maxRecDepth 8000

def osem (k : Fin 32) : SemLoc sig := .dma (⟨6 + k.val, by have := k.isLt; show 6 + k.val < 38; omega⟩ : Fin 38)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 33 → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

theorem assoc (P Q R : sProp 𝕄) : iprop((P ∗ Q) ∗ R) = iprop(P ∗ Q ∗ R) := by
  have h1 : iprop((P ∗ Q) ∗ R) ⊢ iprop(P ∗ Q ∗ R) := by
    iintro ⟨⟨H1, H2⟩, H3⟩
    isplitl [H1]; · iexact H1
    isplitl [H2] <;> iassumption
  have h2 : iprop(P ∗ Q ∗ R) ⊢ iprop((P ∗ Q) ∗ R) := by
    iintro ⟨H1, H2, H3⟩
    isplitr [H3]
    · isplitl [H1] <;> iassumption
    iexact H3
  exact equiv_iff.mp ⟨h1, h2⟩

/-- The thirty-three semaphores are the barrier, the sends by step and slice, the receives by step and slice. -/
theorem cells_split (Φ : SemLoc sig → sProp 𝕄) :
    (bigSep Finset.univ fun k : Fin 33 => Φ (csem k))
      = iprop(Φ (.reg barS) ∗ (all fun t => all fun s => Φ (.dma (sendSem t s).sem)) ∗ all fun t => all fun s => Φ (.dma (recvSem t s).sem)) := by
  rw [bigSep_univ_eq_bigSepL [0, 1, 2, 3, 4, 5, 6, 7, 8, 9, 10, 11, 12, 13, 14, 15, 16, 17, 18, 19, 20, 21, 22, 23, 24, 25, 26, 27, 28, 29, 30, 31, 32] (by decide) (by decide)]
  simp only [← csem_bar, ← csem_send, ← csem_recv, all, bigSep_four, assoc]
  rfl
theorem own_split (Φ : SemLoc sig → sProp 𝕄) :
    (bigSep Finset.univ fun k : Fin 32 => Φ (osem k))
      = iprop((all fun t => all fun s => Φ (.dma (sendSem t s).sem)) ∗ all fun t => all fun s => Φ (.dma (recvSem t s).sem)) := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  simp only [← csem_send, ← csem_recv, all, bigSep_four, assoc]
  rfl

def ringCells : Finset (GSem nD τ sig) := Finset.univ.map ⟨kcell, kcell_injective⟩

/-- The duty tokens as minted: four for each semaphore, of which the barrier's four and the others' first are used. -/
abbrev tokOf (x : (Dev nD × Fin 33) × Fin 4) : GSem nD τ sig × ℕ × Fin 4 := (kcell x.1, 0, x.2)
theorem tokOf_injective : Function.Injective (tokOf : (Dev nD × Fin 33) × Fin 4 → GSem nD τ sig × ℕ × Fin 4) := by
  rintro ⟨a, j⟩ ⟨b, j'⟩ h
  have h1 : kcell a = kcell b := congrArg Prod.fst h
  have h2 : j = j' := congrArg (fun x : GSem nD τ sig × ℕ × Fin 4 => x.2.2) h
  rw [kcell_injective h1, h2]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own semaphores. -/
def toks (c : Dev nD) : sProp 𝕄 := bigSep Finset.univ fun k : Fin 33 => all fun j => dutyTok ER (kcell (c, k)) 0 j

/-- What the launch deals device `c`. -/
def G (c : Dev nD) : sProp 𝕄 :=
  iprop((bigSep Finset.univ fun k : Fin 33 => roundState ER (rd m) (kcell (c, k)) 0)
    ∗ (bigSep Finset.univ fun k : Fin 33 => atPos ER (kcell (c, k)) 0 ∅ 0)
    ∗ (bigSep Finset.univ fun k : Fin 33 => reached ER (kcell (c, k)) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = iprop((all fun t => all fun s => semVal (sendCell t s c) 0) ∗ all fun t => all fun s => semVal (recvCell t s c) 0) :=
  own_split fun sm => semVal ((c : Thread nD τ), sm) 0
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [ownSems0_eq, unscopedSems0_eq, show (bigSep Finset.univ fun k : Fin 33 => (semVal (kcell (c, k)) 0 : sProp 𝕄)) = _ from
    cells_split fun sm => semVal ((c : Thread nD τ), sm) 0]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k : Fin 33 => atPos ER (kcell (c, k)) 0 ∅ 0)
          ∗ (bigSep Finset.univ fun k : Fin 33 => reached ER (kcell (c, k)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- The positions and the duties each device pays. -/
def pays (c : Dev nD) : sProp 𝕄 :=
  iprop((bigSep Finset.univ fun k : Fin 33 => atPos ER (kcell (c, k)) 0 ∅ 0)
    ∗ (all fun j => dutyTok ER (barCell (partner j c)) 0 j)
    ∗ (all fun t => all fun s => dutyTok ER (sendCell t s c) 0 0)
    ∗ all fun t => all fun s => dutyTok ER (recvCell t s (partner (which t s) c)) 0 0)

/-- A family dealt to the devices, each member moved along a permutation of its own. -/
theorem deal {I : Type} [Fintype I] (Ψ : I → Dev nD → sProp 𝕄) (e : I → Dev nD ≃ Dev nD) :
    (bigSep Finset.univ fun c : Dev nD => bigSep Finset.univ fun i => Ψ i c) = bigSep Finset.univ fun c : Dev nD => bigSep Finset.univ fun i => Ψ i (e i c) := by
  have swap (Ψ : I → Dev nD → sProp 𝕄) : (bigSep Finset.univ fun c : Dev nD => bigSep Finset.univ fun i => Ψ i c)
      = bigSep Finset.univ fun i => bigSep Finset.univ fun c : Dev nD => Ψ i c := by
    rw [← bigSep_univ_prod (fun x : Dev nD × I => Ψ x.2 x.1), bigSep_univ_equiv (Equiv.prodComm I (Dev nD)) (fun x : Dev nD × I => Ψ x.2 x.1), bigSep_univ_prod]
    rfl
  rw [swap, swap]
  exact bigSep_congr fun i _ => bigSep_univ_equiv (e i) _

theorem toks_one (c : Dev nD) :
    (toks c : sProp 𝕄) ⊢ iprop((all fun j => dutyTok ER (barCell c) 0 j) ∗ (all fun t => all fun s => dutyTok ER (sendCell t s c) 0 0)
      ∗ bigSep Finset.univ fun ts : Fin 4 × Fin 4 => dutyTok ER (recvCell ts.1 ts.2 c) 0 0) := by
  unfold toks
  rw [show (bigSep Finset.univ fun k : Fin 33 => (all fun j => dutyTok ER (kcell (c, k)) 0 j : sProp 𝕄)) = _ from
    cells_split fun sm => all fun j => dutyTok ER ((c : Thread nD τ), sm) 0 j, bigSep_univ_prod]
  have h1 : (all fun t => all fun s => all fun j => (dutyTok ER (sendCell t s c) 0 j : sProp 𝕄)) ⊢ all fun t => all fun s => dutyTok ER (sendCell t s c) 0 0 :=
    bigSep_mono fun t _ => bigSep_mono fun s _ => bigSep_elim (Φ := fun j : Fin 4 => (dutyTok ER (sendCell t s c) 0 j : sProp 𝕄)) (Finset.mem_univ 0)
  have h2 : (all fun t => all fun s => all fun j => (dutyTok ER (recvCell t s c) 0 j : sProp 𝕄)) ⊢ all fun t => all fun s => dutyTok ER (recvCell t s c) 0 0 :=
    bigSep_mono fun t _ => bigSep_mono fun s _ => bigSep_elim (Φ := fun j : Fin 4 => (dutyTok ER (recvCell t s c) 0 j : sProp 𝕄)) (Finset.mem_univ 0)
  iintro ⟨HB, HS, HV⟩
  isplitl [HB]; · iexact HB
  isplitl [HS]; · iapply h1; iexact HS
  iapply h2; iexact HV

theorem toks_around : (bigSep Finset.univ fun c : Dev nD => (toks c : sProp 𝕄))
    ⊢ bigSep Finset.univ fun c : Dev nD => iprop((all fun j => dutyTok ER (barCell (partner j c)) 0 j)
      ∗ (all fun t => all fun s => dutyTok ER (sendCell t s c) 0 0)
      ∗ bigSep Finset.univ fun ts : Fin 4 × Fin 4 => dutyTok ER (recvCell ts.1 ts.2 (partner (which ts.1 ts.2) c)) 0 0) := by
  refine (bigSep_mono fun c _ => toks_one c).trans ?_
  rw [bigSep_sep', bigSep_sep', bigSep_sep', bigSep_sep',
    deal (fun (j : Fin 4) (c : Dev nD) => (dutyTok ER (barCell c) 0 j : sProp 𝕄)) (fun j => pairing j),
    deal (fun (ts : Fin 4 × Fin 4) (c : Dev nD) => (dutyTok ER (recvCell ts.1 ts.2 c) 0 0 : sProp 𝕄)) (fun ts => pairing (which ts.1 ts.2))]
  exact Entails.refl _

/-- What the global step gives each device. -/
def G' (c : Dev nD) : sProp 𝕄 := iprop((∃ K, records m K) ∗ pays c)

theorem pays_eq : (bigSep Finset.univ fun c : Dev nD => (pays c : sProp 𝕄))
    = iprop((bigSep Finset.univ fun c : Dev nD => bigSep Finset.univ fun k : Fin 33 => atPos ER (kcell (c, k)) 0 ∅ 0)
      ∗ bigSep Finset.univ fun c : Dev nD => iprop((all fun j => dutyTok ER (barCell (partner j c)) 0 j)
        ∗ (all fun t => all fun s => dutyTok ER (sendCell t s c) 0 0)
        ∗ bigSep Finset.univ fun ts : Fin 4 × Fin 4 => dutyTok ER (recvCell ts.1 ts.2 (partner (which ts.1 ts.2) c)) 0 0)) := by
  rw [← bigSep_sep']
  exact bigSep_congr fun c _ => by unfold pays; rw [bigSep_univ_prod]

theorem regroup :
    (bigSep Finset.univ fun c : Dev nD => iprop((bigSep Finset.univ fun k => iprop(∃ κ : ℕ, cellInv ER (rd m) κ (kcell (c, k))))
          ∗ (bigSep Finset.univ fun k : Fin 33 => atPos ER (kcell (c, k)) 0 ∅ 0)
          ∗ (bigSep Finset.univ fun k : Fin 33 => reached ER (kcell (c, k)) 0) ∗ toks c) : sProp 𝕄)
      ⊢ bigSep Finset.univ (G' m) := by
  rw [bigSep_sep', bigSep_sep', bigSep_sep', ← bigSep_univ_prod (fun ck : Dev nD × Fin 33 => iprop(∃ κ : ℕ, cellInv ER (rd m) κ (kcell ck))),
    ← bigSep_univ_prod (fun ck : Dev nD × Fin 33 => (reached ER (kcell ck) 0 : sProp 𝕄))]
  iintro ⟨HI, Hat, #HR, Htok⟩
  ihave HK := (BI.bigSep_exists_pi Finset.univ (fun (ck : Dev nD × Fin 33) (κ : ℕ) => (cellInv ER (rd m) κ (kcell ck) : sProp 𝕄))) $$ HI
  icases HK with ⟨%K, #HI⟩
  ihave Htk := (toks_around (F := F)) $$ Htok
  iapply (bigSep_with_persistent (R := records m K) (Φ := pays) fun c _ => (by
    unfold G'
    iintro ⟨HR, HP⟩
    isplitl [HR]; · iexists K; iexact HR
    iexact HP : iprop(records m K ∗ pays c) ⊢ G' m c))
  isplitr
  · unfold records; isplitl; · iexact HI
    iexact HR
  · iapply (Entails.of_eq pays_eq.symm)
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {t s t' s' : Fin 4} {a b : Dev nD} : Iff (recvCell t s a = recvCell t' s' b) (t = t' ∧ s = s' ∧ a = b) := by
  refine ⟨fun h => ?_, fun ⟨h1, h2, h3⟩ => by rw [h1, h2, h3]⟩
  have h1 : a = b := Fin.ext (congrArg (fun g : GSem nD τ sig => g.1.1.val) h)
  have h2 := congrArg role (congrArg Prod.snd h)
  rw [role_recv, role_recv] at h2
  injection h2 with h3 h4
  exact ⟨h3, h4, h1⟩
theorem recv_ne_bar {t s : Fin 4} {a b : Dev nD} : recvCell t s a ≠ barCell b := fun h => by
  have h2 := congrArg role (congrArg Prod.snd h)
  rw [role_recv, role_bar] at h2
  cases h2

theorem dueLast_bar (d c : Dev nD) (k : ℕ) : dueLast d k (barCell c) () = 0 := by
  induction k with
  | zero => rfl
  | succ k ih =>
    show (dueLast d k + due d _ _) (barCell c) () = 0
    have e (t s : Fin 4) : due d t s (barCell c) () = 0 := by rw [due, tallyAt_ne_cell (fun h => recv_ne_bar h.symm), Finsupp.zero_apply]
    rw [Pi.add_apply, Finsupp.add_apply, ih, e]

/-- What device `d` owes device `c`'s barrier: a unit for each way in which they are partners. -/
theorem owed_bar (d c : Dev nD) : O₀ d (barCell c) () = ∑ j : Fin 4, if d = partner j c then 1 else 0 := by
  have one (j : Fin 4) : (tallyAt (barCell (partner j d)) () 1 : CellTallies nD τ sig Unit) (barCell c) () = if d = partner j c then 1 else 0 := by
    rw [tallyAt_apply]
    by_cases h : d = partner j c
    · rw [if_pos h, if_pos ⟨by rw [h, partner_partner], rfl⟩]
    · rw [if_neg h, if_neg fun ⟨h', _⟩ => h (by rw [bar_eq_iff.mp h', partner_partner])]
  unfold O₀
  show (dueLast d 16 + tallyAt (barCell (partner 3 d)) () 1 + tallyAt (barCell (partner 2 d)) () 1 + tallyAt (barCell (partner 1 d)) () 1
    + tallyAt (barCell (partner 0 d)) () 1) (barCell c) () = _
  simp only [Pi.add_apply, Finsupp.add_apply, one, dueLast_bar, Fin.sum_univ_four]
  omega

theorem due_at (d c : Dev nD) (t s t' s' : Fin 4) :
    due d t' s' (recvCell t s c) () = if t' = t ∧ s' = s then (if d = partner (which t s) c then N else 0) else 0 := by
  rw [due, tallyAt_apply]
  by_cases h : t' = t ∧ s' = s
  · rw [if_pos h, h.1, h.2]
    by_cases h' : d = partner (which t s) c
    · rw [if_pos h', if_pos ⟨by rw [h', partner_partner], rfl⟩]
    · rw [if_neg h', if_neg fun ⟨h'', _⟩ => h' (by rw [(recv_eq_iff.mp h'').2.2, partner_partner])]
  · rw [if_neg h, if_neg fun ⟨h'', _⟩ => h ⟨(recv_eq_iff.mp h'').1.symm, (recv_eq_iff.mp h'').2.1.symm⟩]

theorem dueLast_recv (d c : Dev nD) (t s : Fin 4) (k : ℕ) (hk : k ≤ 16) :
    dueLast d k (recvCell t s c) () = if 16 - k ≤ 4 * t.val + s.val then (if d = partner (which t s) c then N else 0) else 0 := by
  induction k with
  | zero => rw [if_neg (by omega)]; rfl
  | succ k ih =>
    show (dueLast d k + due d _ _) (recvCell t s c) () = _
    rw [Pi.add_apply, Finsupp.add_apply, ih (by omega), due_at]
    have e : (Fin.ofNat 4 ((15 - k) / 4) = t ∧ Fin.ofNat 4 ((15 - k) % 4) = s) ↔ 15 - k = 4 * t.val + s.val := by
      rw [Fin.ext_iff, Fin.ext_iff]
      show (15 - k) / 4 % 4 = t.val ∧ (15 - k) % 4 % 4 = s.val ↔ _
      omega
    generalize (if d = partner (which t s) c then N else 0) = x
    by_cases h : 15 - k = 4 * t.val + s.val
    · rw [if_neg (by omega), if_pos (e.mpr h), if_pos (by omega), Nat.zero_add]
    · rw [if_neg (mt e.mp h), Nat.add_zero]
      by_cases h' : 16 - k ≤ 4 * t.val + s.val
      · rw [if_pos h', if_pos (by omega)]
      · rw [if_neg h', if_neg (by omega)]

theorem owed_recv (d c : Dev nD) (t s : Fin 4) : O₀ d (recvCell t s c) () = if d = partner (which t s) c then N else 0 := by
  have one (j : Fin 4) : (tallyAt (barCell (partner j d)) () 1 : CellTallies nD τ sig Unit) (recvCell t s c) () = 0 := by
    rw [tallyAt_ne_cell recv_ne_bar, Finsupp.zero_apply]
  unfold O₀
  show (dueLast d 16 + tallyAt (barCell (partner 3 d)) () 1 + tallyAt (barCell (partner 2 d)) () 1 + tallyAt (barCell (partner 1 d)) () 1
    + tallyAt (barCell (partner 0 d)) () 1) (recvCell t s c) () = _
  simp only [Pi.add_apply, Finsupp.add_apply, one, Nat.add_zero]
  rw [dueLast_recv d c t s 16 (le_refl _), if_pos (by omega)]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => Finset.sum_ite_eq' Finset.univ (partner j c) fun _ => 1]
  simp only [Finset.mem_univ, if_true, Finset.sum_const, Finset.card_univ, Fintype.card_fin, smul_eq_mul, mul_one]

theorem launch_recv (c : Dev nD) (t s : Fin 4) :
    tallyOn (recvCell t s c) (launchCredit (Pipeline.owing O₀) 0 (recvCell t s c)) = (tallyAt (recvCell t s c) () N : CellTallies nD τ sig Unit) := by
  unfold tallyAt; refine congrArg _ (Finsupp.ext fun u => ?_); cases u
  rw [Pipeline.launchCredit_owing, Finsupp.single_eq_same, Finset.sum_congr rfl fun d _ => owed_recv d c t s,
    Finset.sum_ite_eq' Finset.univ (partner (which t s) c) fun _ => N, if_pos (Finset.mem_univ _)]

theorem creds (c : Dev nD) :
    (Pipeline.launchCred O₀ c : sProp 𝕄) ⊢ iprop(cred (tallyAt (barCell c) () 4) ∗ all fun t => all fun s => cred (tallyAt (recvCell t s c) () N)) := by
  have h : (Pipeline.launchCred O₀ c : sProp 𝕄) ⊢ bigSep Finset.univ fun k : Fin 33 =>
      cred (tallyOn ((c : Thread nD τ), csem k) (launchCredit (Pipeline.owing O₀) 0 ((c : Thread nD τ), csem k))) := by
    unfold Pipeline.launchCred
    refine (bigSep_subset (Finset.subset_univ (Finset.univ.map ⟨csem, csem_injective⟩))).trans ?_
    rw [bigSep_map]
    exact Entails.refl _
  refine h.trans ?_
  rw [cells_split fun sm => cred (tallyOn ((c : Thread nD τ), sm) (launchCredit (Pipeline.owing O₀) 0 ((c : Thread nD τ), sm)))]
  rw [launch_bar]
  refine sep_mono_right ?_
  iintro ⟨-, H⟩
  have e : (all fun t => all fun s => (cred (tallyOn (recvCell t s c) (launchCredit (Pipeline.owing O₀) 0 (recvCell t s c))) : sProp 𝕄))
      = all fun t => all fun s => cred (tallyAt (recvCell t s c) () N) :=
    bigSep_congr fun t _ => bigSep_congr fun s _ => by rw [launch_recv]
  iapply (Entails.of_eq e)
  iexact H

/-! ### The theorem's side conditions -/

theorem ticks_eq (c : Dev nD) :
    (all fun t => all (tick (F := F) c t)) = iprop((all fun t => all fun s => atPos ER (sendCell t s c) 0 ∅ 0) ∗ (all fun t => all fun s => atPos ER (recvCell t s c) 0 ∅ 0)
      ∗ (all fun t => all fun s => dutyTok ER (sendCell t s c) 0 0)
      ∗ (all fun t => all fun s => dutyTok ER (recvCell t s (partner (which t s) c)) 0 0) ∗ all fun t => all fun s => cred (tallyAt (recvCell t s c) () N)) := by
  unfold all tick
  simp only [bigSep_sep']

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' pays barTick
  rw [ticks_eq, show (bigSep Finset.univ fun k : Fin 33 => (atPos ER (kcell (c, k)) 0 ∅ 0 : sProp 𝕄)) = _ from
    cells_split fun sm => atPos ER ((c : Thread nD τ), sm) 0 ∅ 0]
  iintro ⟨-, Hlev, Hcr, -, HR, ⟨HaB, HaS, HaV⟩, HtB, HtS, HtV⟩
  ihave Hc := (creds (F := F) c) $$ Hcr
  icases Hc with ⟨H1, HN⟩
  imodintro
  isplitl
  · isplitl [HR]; · iexact HR
    isplitl [Hlev]; · iexact Hlev
    isplitl [HaB HtB H1]
    · isplitl [HaB]; · iexact HaB
      isplitl [HtB] <;> iassumption
    isplitl [HaS]; · iexact HaS
    isplitl [HaV]; · iexact HaV
    isplitl [HtS]; · iexact HtS
    isplitl [HtV] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch sems
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What each array holds at the end. -/
def finalA (c : Dev nD) (w : Fin cfg0.W) : Buf (Elt F) ((cfg0.win w).arr.view.loc (c : Thread nD τ)) := (dats m ρ 0 c).arrAt w cfg0.N

/-- Every array of every device holds it. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution on the sixteen devices terminates, and
    every final state has each device's arrays at the computed contents and every semaphore counter at zero. -/
theorem run_main : θ_run defs (onTc (τ := τ) (main (F := F))) ⟨m, fun _ => 0, ρ⟩ (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

end Cert.Attn

end
-- ==== Proof.Frames.lean ====
/-
# The frames

Each program terminates from every memory, leaves its arguments as they were and returns every semaphore to zero.
-/
module

public import proofs.«01_k».proof.Defs
public import proofs.«01_k».proof.Proof.Gen.Kernel
public import proofs.«01_k».proof.Proof.Gen.ReferenceIdeal.Frame
public import proofs.«01_k».proof.Proof.Run

@[expose] public section

noncomputable section

namespace Cert.Attn

open Cert.KernelIdeal Cert.KernelIdeal.Gen

open Idealize.ShloMosaic Idealize.ShloMosaic.TcCoe Idealize.SL.Sem

set_option maxRecDepth 32768

variable {F : FTy → Type} [FloatOps F]

/-- What the run leaves in device `c`'s arrays: the arguments as they were, the result at `finalA`. -/
theorem arrays_of_QC {m : (ℓ : Loc nD τ sig) → Buf (Elt F) ℓ} {ρ : Dev nD → PrngReg} {r : PUnit × MemSt nD τ sig (Elt F)} (h : QC m ρ r) (c : Dev nD) :
    r.2.mem ((c.tc : Thread nD τ).loc main_v1) = finalA m ρ c (5 : Fin 6)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨h c (5 : Fin 6), (h c (0 : Fin 6)).trans (finalA_in m ρ c (0 : Fin 6) rfl), (h c (1 : Fin 6)).trans (finalA_in m ρ c (1 : Fin 6) rfl),
    (h c (2 : Fin 6)).trans (finalA_in m ρ c (2 : Fin 6) rfl), (h c (3 : Fin 6)).trans (finalA_in m ρ c (3 : Fin 6) rfl),
    (h c (4 : Fin 6)).trans (finalA_in m ρ c (4 : Fin 6) rfl)⟩

/-- The idealized kernel's frame. -/
theorem frame_ideal : Cert.quiescent_KernelIdeal := fun m ρ _ =>
  (θ_run Cert.KernelIdeal.defs _ _).mono (fun _ h => ⟨fun c => (arrays_of_QC h.1 c).2, h.2⟩) (run_main (F := Ideal) m ρ)

/-- The kernel as printed for bits and as printed for extended reals runs the same bodies. -/
theorem bodies_eq : @Cert.Kernel.defs₀ Bits _ _ = Cert.KernelIdeal.defs₀ (F := Bits) := by
  unfold Cert.Kernel.defs₀ Cert.KernelIdeal.defs₀
  congr 1
  funext l a
  rcases l with ⟨l, hl⟩
  obtain rfl : l = 0 := by have : l < 1 := hl; omega
  rcases a with ⟨t, s⟩
  rfl

/-- So do the programs with their copies in and out. -/
theorem defs_eq : @Cert.Kernel.defs Bits _ _ = Cert.KernelIdeal.defs (F := Bits) :=
  congrArg (Pipeline.defs (Cert.KernelIdeal.pcfgs (F := Bits))) bodies_eq

/-- The kernel's frame, on bits. -/
theorem frame_kernel : Cert.quiescent_Kernel := by
  intro m ρ _
  have h := (θ_run Cert.KernelIdeal.defs _ _).mono (Q' := fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0)
    (fun _ h => ⟨fun c => (arrays_of_QC h.1 c).2, h.2⟩) (run_main (F := Bits) m ρ)
  rw [← defs_eq] at h
  exact h

/-- The reference's frame. -/
theorem frame_reference : Cert.quiescent_ReferenceIdeal := fun m ρ _ => Cert.ReferenceIdeal.Gen.frame (F := Ideal) m ρ

end Cert.Attn

end
-- ==== Proof.Mask.lean ====
/-
# The mask

Query row `i` and key row `k` (of all 4096) are kept where `keep i k`: both in the same block of 64, or the key in block 0, or
the block numbers' sum a multiple of 3. The kernel's mask on device `c` is `keep` at key `256 c + j`; the reference's is `keep`.
-/
module

public import proofs.«01_k».proof.Proof.Steps
public import proofs.«01_k».proof.Proof.Gen.ReferenceIdeal.Run
public import Idealize.ShloMosaic.Lib.Pointwise
public import Idealize.ShloMosaic.Lib.Tactic.CleanTypes
public import Idealize.ShloMosaic.Lib.Routing.OpsOrder

@[expose] public section

set_option maxRecDepth 16384

noncomputable section

namespace Cert.Attn

open Idealize.ShloMosaic
open Idealize.ShloMosaic.TcCoe

/-- Query row `i` attends to key row `k`. -/
abbrev keep (i k : ℕ) : Prop := i / 64 = k / 64 ∨ k / 64 = 0 ∨ (i / 64 + k / 64) % 3 = 0

section Kernel
open Cert.KernelIdeal Cert.KernelIdeal.Gen

/-- The kernel's query block numbers. -/
theorem rowBlock (i j : Fin 256) :
    k0_pay5 (iota .tc S256x256 32 [0] iota_S256x256_d0_w32) 64#32 k0_pay2 k0_pay3 k0_pay4 (ix2 i j) = BitVec.ofNat 32 (i.val / 64) := by
  pointwise [k0_pay5, k0_pay2, k0_pay3, k0_pay4]
  revert i
  decide +kernel

/-- The first block number of device `c`'s keys, as the kernel computes it. -/
theorem devWord (c : Dev nD) : Scalar.muli (Scalar.remsi (Scalar.divsi (Dev.word c) 1#32) 16#32) 4#32 = BitVec.ofNat 32 (4 * c.val) := by
  revert c
  decide +kernel

/-- The kernel's key block numbers, counted over all devices. -/
theorem colBlock (c : Dev nD) (i j : Fin 256) :
    k0_pay6 (Scalar.remsi (Scalar.divsi (Dev.word c) 1#32) 16#32) (ix2 i j) = BitVec.ofNat 32 ((256 * c.val + j.val) / 64) := by
  rw [show (256 * c.val + j.val) / 64 = 4 * c.val + j.val / 64 by omega, BitVec.ofNat_add]
  pointwise [k0_pay6]
  rw [devWord]
  refine congrArg (BitVec.ofNat 32 (4 * c.val) + ·) ?_
  clear i
  revert j
  decide +kernel

/-- The kernel's mask bit at row `j` of device `c`'s keys. -/
theorem keepBit (c : Dev nD) (i j : Fin 256) : maskAt c (ix2 i j) = if keep i.val (256 * c.val + j.val) then 1#1 else 0#1 := by
  have ha : i.val / 64 < 4 := by have := i.isLt; omega
  have hb : (256 * c.val + j.val) / 64 < 64 := by have := j.isLt; have : c.val < 16 := c.isLt; omega
  pointwise [maskAt, k0_pay7, k0_pay8, k0_pay9]
  rw [rowBlock, colBlock]
  simp only [keep]
  generalize i.val / 64 = a at *
  generalize (256 * c.val + j.val) / 64 = b at *
  revert a b
  decide +kernel
end Kernel

section Reference
open Cert.ReferenceIdeal Cert.ReferenceIdeal.Value

variable (V : Valuation τ sig (Elt Ideal))

/-- The reference's block number of a query, -/
theorem queryBlock (i : Fin 256) (j : Fin 1) : res_main_v8 V (ix2 i j) = BitVec.ofNat 32 (i.val / 64) := by
  unfold res_main_v8 res_main_call0_v2 res_main_call0_v0 res_main_v6
  clean_types
  pointwise []
  clear j
  revert i
  decide +kernel

/-- and of a key. -/
theorem keyBlock (j : Fin 1) (k : Fin 4096) : res_main_v11 V (ix2 j k) = BitVec.ofNat 32 (k.val / 64) := by
  unfold res_main_v11 res_main_call1_v2 res_main_call1_v0 res_main_v9
  clean_types
  pointwise []
  clear j
  revert k
  decide +kernel

/-- The reference's mask bit. -/
theorem referenceBit (i : Fin 256) (k : Fin 4096) : res_main_v26 V (ix2 i k) = if keep i.val k.val then 1#1 else 0#1 := by
  have ha : i.val / 64 < 4 := by have := i.isLt; omega
  have hb : k.val / 64 < 64 := by have := k.isLt; omega
  unfold res_main_v26
  clean_types
  pointwise []
  rw [queryBlock, keyBlock]
  simp only [keep]
  generalize i.val / 64 = a at *
  generalize k.val / 64 = b at *
  revert a b
  decide +kernel

/-- Every query row is kept: it attends to key block 0. -/
theorem rowKept (i : Fin 256) : res_main_v34 V (ix1 i) = 1#1 := by
  unfold res_main_v34
  clean_types
  pointwise []
  rw [Routing.fold_ori]
  exact ⟨0, Finset.mem_univ _, by rw [referenceBit]; exact if_pos (Or.inr (Or.inl rfl))⟩
end Reference

end Cert.Attn

end
-- ==== Proof.Attention.lean ====
/-
# Attention over the real numbers

Where the queries' and keys' inputs are real numbers, both programs compute one array. This file states it. The values and the
output's weights may be infinite: the softmax's weights are real numbers all the same.
-/
module

public import proofs.«01_k».proof.Proof.Mask

@[expose] public section

noncomputable section

namespace Cert.Attn

open scoped BigOperators

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real number that is not negative distributes over a sum of extended reals. -/
theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

/-- The five input arrays: the queries' and the keys' real numbers, the values' and the output's weights any. -/
structure Inputs : Type where
  x : Fin 2 → Fin 256 → Fin 512 → ℝ
  wq : Fin 512 → Fin 256 → ℝ
  k : Fin 2 → Fin 4096 → Fin 4 → Fin 64 → ℝ
  v : Fin 2 → Fin 4096 → Fin 4 → Fin 64 → EReal
  wo : Fin 256 → Fin 512 → EReal

/-- Element `d` of head `h`, of all 256. -/
def col (h : Fin 4) (d : Fin 64) : Fin 256 := ⟨64 * h.val + d.val, by omega⟩
/-- The head of an element, -/
def headOfCol (e : Fin 256) : Fin 4 := ⟨e.val / 64, by omega⟩
/-- and its place in the head. -/
def inHead (e : Fin 256) : Fin 64 := ⟨e.val % 64, by omega⟩
/-- Row `j` of device `c`'s block of keys, of all 4096. -/
def row (c : Fin 16) (j : Fin 256) : Fin 4096 := ⟨256 * c.val + j.val, by omega⟩

namespace Inputs

variable (I : Inputs)

/-- Element `e` of the projected query at position `i`. -/
def query (b : Fin 2) (i e : Fin 256) : ℝ := ∑ f, I.x b i f * I.wq f e
/-- A query's score against the key at position `k`, scaled by an eighth. -/
def score (b : Fin 2) (h : Fin 4) (i : Fin 256) (k : Fin 4096) : ℝ := (∑ d, I.query b i (col h d) * I.k b k h d) * (1 / 8)
/-- The exponential of the score where the mask holds, zero elsewhere. -/
def weight (b : Fin 2) (h : Fin 4) (i : Fin 256) (k : Fin 4096) : ℝ := if keep i.val k.val then Real.exp (I.score b h i k) else 0
/-- A row's sum of weights. -/
def denom (b : Fin 2) (h : Fin 4) (i : Fin 256) : ℝ := ∑ k, I.weight b h i k
/-- The weighted sum of the values, not yet divided by the row's sum. -/
def context (b : Fin 2) (i e : Fin 256) : EReal := ∑ k, (I.weight b (headOfCol e) i k : EReal) * I.v b k (headOfCol e) (inHead e)
/-- The projected output. -/
def result (b : Fin 2) (i : Fin 256) (o : Fin 512) : EReal :=
  ∑ e, I.context b i e * ((1 / I.denom b (headOfCol e) i : ℝ) : EReal) * I.wo e o

/-- The share of one device's block of keys. -/
def partDenom (c : Fin 16) (b : Fin 2) (h : Fin 4) (i : Fin 256) : ℝ := ∑ j, I.weight b h i (row c j)
/-- The same share of the context. -/
def partContext (c : Fin 16) (b : Fin 2) (i e : Fin 256) : EReal :=
  ∑ j, (I.weight b (headOfCol e) i (row c j) : EReal) * I.v b (row c j) (headOfCol e) (inHead e)

/-- No weight is negative. -/
theorem weight_nonneg (b : Fin 2) (h : Fin 4) (i : Fin 256) (k : Fin 4096) : 0 ≤ I.weight b h i k := by
  unfold weight; split
  · exact (Real.exp_pos _).le
  · exact le_rfl

/-- The first key is inside the mask of every query. -/
theorem keep_zero (i : Fin 256) : keep i.val (0 : Fin 4096).val := Or.inr (Or.inl rfl)

/-- So no row's sum is zero. -/
theorem denom_pos (b : Fin 2) (h : Fin 4) (i : Fin 256) : 0 < I.denom b h i :=
  Finset.sum_pos' (fun k _ => I.weight_nonneg b h i k)
    ⟨0, Finset.mem_univ _, by unfold weight; rw [if_pos (keep_zero i)]; exact Real.exp_pos _⟩

/-- A sum over all 4096 key rows is the sum over the devices of the sums over their blocks. -/
theorem sum_rows {M : Type} [AddCommMonoid M] (f : Fin 4096 → M) : ∑ c, ∑ j, f (row c j) = ∑ k, f k := by
  rw [← Fintype.sum_prod_type']
  refine Fintype.sum_equiv ⟨fun p => row p.1 p.2, fun k => (⟨k.val / 256, by omega⟩, ⟨k.val % 256, by omega⟩), ?_, ?_⟩ _ _ fun _ => rfl
  · rintro ⟨c, j⟩
    refine Prod.ext (Fin.ext ?_) (Fin.ext ?_)
    · show (256 * c.val + j.val) / 256 = c.val; omega
    · show (256 * c.val + j.val) % 256 = j.val; omega
  · intro k
    exact Fin.ext (show 256 * (k.val / 256) + k.val % 256 = k.val by omega)

/-- The devices' shares of a row's sum add up to it, -/
theorem sum_partDenom (b : Fin 2) (h : Fin 4) (i : Fin 256) : ∑ c, I.partDenom c b h i = I.denom b h i := sum_rows _
/-- and so do their shares of the context, -/
theorem sum_partContext (b : Fin 2) (i e : Fin 256) : ∑ c, I.partContext c b i e = I.context b i e :=
  sum_rows fun k => (I.weight b (headOfCol e) i k : EReal) * I.v b k (headOfCol e) (inHead e)

/-- What a device's accumulator holds of it: 256 rows of context, then a row of row sums for each head, then zeros. -/
def part (c : Fin 16) (b : Fin 2) (r : Fin 272) (e : Fin 256) : EReal :=
  if h : r.val < 256 then I.partContext c b ⟨r.val, h⟩ e
  else if h' : r.val < 260 then (I.partDenom c b ⟨r.val - 256, by omega⟩ e : EReal) else 0
/-- The same of all the keys. -/
def whole (b : Fin 2) (r : Fin 272) (e : Fin 256) : EReal :=
  if h : r.val < 256 then I.context b ⟨r.val, h⟩ e
  else if h' : r.val < 260 then (I.denom b ⟨r.val - 256, by omega⟩ e : EReal) else 0

/-- and so do the whole accumulators, element by element. -/
theorem sum_part (b : Fin 2) (r : Fin 272) (e : Fin 256) : ∑ c, I.part c b r e = I.whole b r e := by
  unfold part whole
  by_cases h : r.val < 256
  · simp only [dif_pos h]; exact I.sum_partContext b _ e
  · simp only [dif_neg h]
    by_cases h' : r.val < 260
    · simp only [dif_pos h']; rw [← coe_sum, I.sum_partDenom b _ e]
    · simp only [dif_neg h']; exact Finset.sum_const_zero

end Inputs

open Idealize.ShloMosaic

/-- The f32 pattern `0x3E000000` is one eighth. -/
theorem ofBits_eighth : Ideal.ofBits .f32 0x3E000000#32 = ((1 / 8 : ℝ) : EReal) := by
  simp [Ideal.ofBits, Ideal.ieee, -EReal.coe_mul]; norm_num

/-- A real quotient by a divisor that is not zero. -/
theorem div_real (a b : ℝ) (hb : b ≠ 0) : Ideal.div (a : EReal) (b : EReal) = ((a / b : ℝ) : EReal) := by
  rw [Ideal.div_coe hb, ← EReal.coe_mul, mul_one_div]

end Cert.Attn

end
-- ==== Proof.Reference.lean ====
/-
# The reference's result

Where the queries' and the keys' inputs are real numbers, the reference computes `I.result`: the scores outside the mask are minus infinity, so their
exponentials vanish; the maximum subtracted inside the exponentials cancels in the quotient; no row is empty.
-/
module

public import proofs.«01_k».proof.Proof.Attention
public import Idealize.ShloMosaic.Lib.Pipeline.ValueKit

@[expose] public section

set_option maxRecDepth 16384

noncomputable section

namespace Cert.Attn

open Cert.ReferenceIdeal Cert.ReferenceIdeal.Value
open Idealize.ShloMosaic
open Idealize.ShloMosaic.TcCoe
open scoped BigOperators

variable (m : (ℓ : Loc nD τ sig) → Buf (Elt Ideal) ℓ)

/-- The reference's device holds the inputs `I`. -/
structure RefHolds (c : Dev nD) (I : Inputs) : Prop where
  x : ∀ b i f, m ((c : Thread nD τ).loc main_arg0) (ix3 b i f) = (I.x b i f : EReal)
  wq : ∀ f e, m ((c : Thread nD τ).loc main_arg1) (ix2 f e) = (I.wq f e : EReal)
  k : ∀ b k h d, m ((c : Thread nD τ).loc main_arg2) (ix4 b k h d) = (I.k b k h d : EReal)
  v : ∀ b k h d, m ((c : Thread nD τ).loc main_arg3) (ix4 b k h d) = I.v b k h d
  wo : ∀ e o, m ((c : Thread nD τ).loc main_arg4) (ix2 e o) = I.wo e o

/-- The score outside the mask is minus infinity. -/
theorem off_apply (c : Dev nD) : reg_main_v5 (F := Ideal) m c = fun _ => (⊥ : EReal) := by
  refine (Gen.dats m 0 c).arrAt_eq_of_covers (1 : Fin 2) (fun _ => (⊥ : EReal)) (by decide +kernel) fun t hf y => ?_
  blk_simp
  rw [Gen.after0_1]
  frame_out
  pointwise [Gen.k0_pay1]
  rfl

variable {m} {c : Dev nD} {I : Inputs} (hI : RefHolds m c I)
include hI

/-- The reference's scores are `I.score`, -/
theorem score_apply (b : Fin 2) (h : Fin 4) (i : Fin 256) (k : Fin 4096) :
    exitV (F := Ideal) m c (Proc.devRef .tc main_v4) (ix4 b h i k) = (I.score b h i k : EReal) := by
  rw [exit_main_v4]
  clean_types
  pointwise []
  have e : ∀ d : Fin 64, (⟨h.val * 64 + d.val, by omega⟩ : Fin 256) = col h d := fun d => Fin.ext (by show h.val * 64 + d.val = 64 * h.val + d.val; omega)
  simp only [hI.x, hI.wq, hI.k, ofBits_eighth, ← EReal.coe_mul, ← coe_sum, e]
  rfl

/-- and minus infinity outside the mask. -/
theorem masked_apply (b : Fin 2) (h : Fin 4) (i : Fin 256) (k : Fin 4096) :
    res_main_v28 (exitV (F := Ideal) m c) (ix4 b h i k) = if keep i.val k.val then (I.score b h i k : EReal) else ⊥ := by
  unfold res_main_v28
  clean_types
  pointwise []
  rw [referenceBit, score_apply hI, exit_main_v5, off_apply]
  by_cases hk : keep i.val k.val
  · rw [if_pos hk, if_pos hk]; rfl
  · rw [if_neg hk, if_neg hk]; rfl

/-- The largest score of a row is a real number: no score is plus infinity, and the first is not minus infinity. -/
theorem largest (b : Fin 2) (h : Fin 4) (i : Fin 256) :
    ∃ μ : ℝ, Finset.fold max (Ideal.ofBits .f32 0xFF800000#32) (fun k => res_main_v28 (exitV (F := Ideal) m c) (ix4 b h i k))
      (Finset.univ : Finset (Fin 4096)) = (μ : EReal) := by
  have hb : Ideal.ofBits .f32 0xFF800000#32 = (⊥ : EReal) := by simp [Ideal.ofBits, Ideal.ieee]
  generalize hM : Finset.fold max (Ideal.ofBits .f32 0xFF800000#32) (fun k => res_main_v28 (exitV (F := Ideal) m c) (ix4 b h i k))
    (Finset.univ : Finset (Fin 4096)) = M
  have htop : M < ⊤ := by
    rw [← hM, Finset.fold_max_lt, hb]
    refine ⟨bot_lt_top, fun k _ => ?_⟩
    rw [masked_apply hI]
    split
    · exact EReal.coe_lt_top _
    · exact bot_lt_top
  have hbot : ⊥ < M := by
    rw [← hM, Finset.lt_fold_max]
    refine Or.inr ⟨0, Finset.mem_univ _, ?_⟩
    rw [masked_apply hI, if_pos (Inputs.keep_zero i)]
    exact EReal.bot_lt_coe _
  exact ⟨M.toReal, (EReal.coe_toReal htop.ne hbot.ne').symm⟩

/-- The exponentials of a row are the weights over one positive number. -/
theorem exp_apply (b : Fin 2) (h : Fin 4) (i : Fin 256) :
    ∃ μ : ℝ, ∀ k : Fin 4096, res_main_v33 (exitV (F := Ideal) m c) (ix4 b h i k) = ((I.weight b h i k / Real.exp μ : ℝ) : EReal) := by
  obtain ⟨μ, hμ⟩ := largest hI b h i
  refine ⟨μ, fun k => ?_⟩
  unfold res_main_v33
  clean_types
  pointwise []
  rw [hμ, masked_apply hI]
  unfold Inputs.weight
  by_cases hk : keep i.val k.val
  · rw [if_pos hk, if_pos hk, ← EReal.coe_sub, ← Real.exp_sub]; rfl
  · rw [if_neg hk, if_neg hk, EReal.bot_sub, zero_div]; rfl

/-- The softmax: each weight over its row's sum. -/
theorem softmax_apply (b : Fin 2) (h : Fin 4) (i : Fin 256) (k : Fin 4096) :
    Ideal.div (res_main_v33 (exitV (F := Ideal) m c) (ix4 b h i k)) (Finset.sum (M := EReal) Finset.univ fun k => res_main_v33 (exitV (F := Ideal) m c) (ix4 b h i k))
      = ((I.weight b h i k / I.denom b h i : ℝ) : EReal) := by
  obtain ⟨μ, hμ⟩ := exp_apply hI b h i
  have hs : (Finset.sum (M := EReal) Finset.univ fun k => res_main_v33 (exitV (F := Ideal) m c) (ix4 b h i k)) = ((I.denom b h i / Real.exp μ : ℝ) : EReal) := by
    unfold Inputs.denom
    rw [Finset.sum_div, coe_sum]
    exact Finset.sum_congr rfl fun k _ => hμ k
  have hd := I.denom_pos b h i
  have he := Real.exp_pos μ
  rw [hμ, hs, div_real _ _ (div_pos hd he).ne', div_div_div_cancel_right₀ he.ne']

omit hI in
/-- The kernel divides once per row, the reference once per weight. -/
theorem result_eq (I : Inputs) (b : Fin 2) (i : Fin 256) (o : Fin 512) :
    I.result b i o = ∑ e, (∑ k, I.v b k (headOfCol e) (inHead e) * ((I.weight b (headOfCol e) i k / I.denom b (headOfCol e) i : ℝ) : EReal)) * I.wo e o := by
  unfold Inputs.result Inputs.context
  refine Finset.sum_congr rfl fun e _ => ?_
  rw [sum_mul_real _ _ (one_div_nonneg.2 (I.denom_pos b (headOfCol e) i).le)]
  congr 1
  refine Finset.sum_congr rfl fun k _ => ?_
  rw [mul_comm _ (I.v _ _ _ _), mul_assoc, ← EReal.coe_mul, mul_one_div]

/-- What the reference leaves in its result, as extended reals. -/
def resultArray (I : Inputs) : S2x256x512.Idx → EReal := fun i => I.result (i 0) (i 1) (i 2)

omit hI in
/-- From memory that holds `I`, the reference ends with its result at `I.result` and its arguments unchanged. -/
theorem run_reference (hI : ∀ c, RefHolds m c I) (ρ : Dev nD → PrngReg) :
    θ_run defs (onTc (τ := τ) (main (F := Ideal))) ⟨m, fun _ => 0, ρ⟩ fun r => ∀ c : Dev nD,
      r.2.mem ((c.tc : Thread nD τ).loc main_v46) = resultArray I
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (funext fun j => by
    have hI := hI c
    change S2x256x512.Idx at j
    obtain ⟨b, i, o, rfl⟩ : ∃ (b : Fin 2) (i : Fin 256) (o : Fin 512), j = ix3 b i o := ⟨j 0, j 1, j 2, eq_ix3 j⟩
    rw [exit_main_arg3, exit_main_arg4]
    clean_types
    pointwise []
    simp only [rowKept, hI.v, hI.wo]
    show Finset.sum (M := EReal) Finset.univ (fun e => (Finset.sum (M := EReal) Finset.univ fun k =>
      I.v b k (headOfCol e) (inHead e) * Ideal.div (res_main_v33 (exitV m c) (ix4 b (headOfCol e) i k))
        (Finset.sum (M := EReal) Finset.univ fun k => res_main_v33 (exitV m c) (ix4 b (headOfCol e) i k))) * I.wo e o) = I.result b i o
    simp only [softmax_apply hI]
    rw [result_eq]), (h c).2⟩) (run m ρ)

end Cert.Attn

end
-- ==== Proof.Blocks.lean ====
/-
# One device's share, element by element

What `part m c` holds where the queries' and the keys' inputs are real numbers: rows 0..255 the share of the context, rows 256..259 the shares of the
four heads' row sums, zeros below.
-/
module

public import proofs.«01_k».proof.Proof.Contents
public import proofs.«01_k».proof.Proof.Attention

@[expose] public section

set_option maxRecDepth 16384

noncomputable section

namespace Cert.Attn

open Cert.KernelIdeal Cert.KernelIdeal.Gen
open Idealize.ShloMosaic
open Idealize.ShloMosaic.TcCoe
open Idealize.SL Idealize.SL.Sem
open scoped BigOperators

variable (m : (ℓ : Loc nD τ sig) → Buf (Elt Ideal) ℓ)

/-! ## Loads -/

/-- What the kernel loads of the activations of one batch row, -/
theorem read_x (c : Dev nD) (b : Fin 2) (z : Fin 1) (i : Fin 256) (f : Fin 512) :
    (xM.access (rX b)).read (Elt Ideal) (xIn m c) (ix3 z i f) = m ((c : Thread nD τ).loc main_arg0) (ix3 b i f) := by
  show m ((c : Thread nD τ).loc main_arg0) _ = _
  congr 1
  funext a
  apply Fin.ext
  fin_cases a
  · show 0 + 1 * (b.val + 1 * z.val) = b.val; omega
  · show 0 + 1 * (0 + 1 * i.val) = i.val; omega
  · show 0 + 1 * (0 + 1 * f.val) = f.val; omega

/-- of the query weights, -/
theorem read_wq (c : Dev nD) (f : Fin 512) (e : Fin 256) :
    (wqM.access rWq).read (Elt Ideal) (wqIn m c) (ix2 f e) = m ((c : Thread nD τ).loc main_arg1) (ix2 f e) := by
  show m ((c : Thread nD τ).loc main_arg1) _ = _
  congr 1
  funext a
  apply Fin.ext
  fin_cases a
  · show 0 + 1 * (0 + 1 * f.val) = f.val; omega
  · show 0 + 1 * (0 + 1 * e.val) = e.val; omega

/-- of the keys of one head, -/
theorem read_k (c : Dev nD) (b : Fin 2) (h : Fin 4) (z z' : Fin 1) (j : Fin 256) (d : Fin 64) :
    (kM.access (rKV b h)).read (Elt Ideal) (kIn m c) (ix4 z j z' d) = m ((c : Thread nD τ).loc main_arg2) (ix4 b j h d) := by
  show m ((c : Thread nD τ).loc main_arg2) _ = _
  congr 1
  funext a
  apply Fin.ext
  fin_cases a
  · show 0 + 1 * (b.val + 1 * z.val) = b.val; omega
  · show 0 + 1 * (0 + 1 * j.val) = j.val; omega
  · show 0 + 1 * (h.val + 1 * z'.val) = h.val; omega
  · show 0 + 1 * (0 + 1 * d.val) = d.val; omega

/-- of the values of one head, -/
theorem read_v (c : Dev nD) (b : Fin 2) (h : Fin 4) (z z' : Fin 1) (j : Fin 256) (d : Fin 64) :
    (vM.access (rKV b h)).read (Elt Ideal) (vIn m c) (ix4 z j z' d) = m ((c : Thread nD τ).loc main_arg3) (ix4 b j h d) := by
  show m ((c : Thread nD τ).loc main_arg3) _ = _
  congr 1
  funext a
  apply Fin.ext
  fin_cases a
  · show 0 + 1 * (b.val + 1 * z.val) = b.val; omega
  · show 0 + 1 * (0 + 1 * j.val) = j.val; omega
  · show 0 + 1 * (h.val + 1 * z'.val) = h.val; omega
  · show 0 + 1 * (0 + 1 * d.val) = d.val; omega

/-- and of the output's weights, in the arguments' elements. -/
theorem read_wo (c : Dev nD) (e : Fin 256) (o : Fin 512) :
    (woM.access rWo).read (Elt Ideal) (woIn m c) (ix2 e o) = m ((c : Thread nD τ).loc main_arg4) (ix2 e o) := by
  show m ((c : Thread nD τ).loc main_arg4) _ = _
  congr 1
  funext a
  apply Fin.ext
  fin_cases a
  · show 0 + 1 * (0 + 1 * e.val) = e.val; omega
  · show 0 + 1 * (0 + 1 * o.val) = o.val; omega

/-! ## Values -/

/-- The devices hold the inputs `I`: the keys and values cut in blocks of 256 rows. -/
structure Holds (I : Inputs) : Prop where
  x : ∀ (c : Dev nD) b i f, m ((c : Thread nD τ).loc main_arg0) (ix3 b i f) = (I.x b i f : EReal)
  wq : ∀ (c : Dev nD) f e, m ((c : Thread nD τ).loc main_arg1) (ix2 f e) = (I.wq f e : EReal)
  k : ∀ (c : Dev nD) b j h d, m ((c : Thread nD τ).loc main_arg2) (ix4 b j h d) = (I.k b (row c j) h d : EReal)
  v : ∀ (c : Dev nD) b j h d, m ((c : Thread nD τ).loc main_arg3) (ix4 b j h d) = I.v b (row c j) h d
  wo : ∀ (c : Dev nD) e o, m ((c : Thread nD τ).loc main_arg4) (ix2 e o) = I.wo e o

variable {m} {I : Inputs} (hI : Holds m I)

include hI

/-- The kernel's queries are `I.query`. -/
theorem qAt_apply (c : Dev nD) (b : Fin 2) (i e : Fin 256) : qAt m c b (ix2 i e) = (I.query b i e : EReal) := by
  pointwise [qAt, queries, k0_pay11]
  simp only [Inputs.query, coe_sum, EReal.coe_mul]
  refine Finset.sum_congr rfl fun f _ => ?_
  rw [read_x, read_wq, hI.x, hI.wq]

/-- The kernel's weights are `I.weight` at the device's own keys. -/
theorem wAt_apply (c : Dev nD) (b : Fin 2) (h : Fin 4) (i j : Fin 256) :
    wAt m c b h (ix2 i j) = (I.weight b h i (row c j) : EReal) := by
  pointwise [wAt, weights]
  rw [keepBit]
  have e : ∑ d : Fin 64, qAt m c b (ix2 i ⟨64 * h.val + d.val, by omega⟩) * (kM.access (rKV b h)).read (Elt Ideal) (kIn m c) (ix4 0 j 0 d)
      = ((∑ d, I.query b i (col h d) * I.k b (row c j) h d : ℝ) : EReal) := by
    rw [coe_sum]
    refine Finset.sum_congr rfl fun d _ => ?_
    rw [read_k, hI.k, qAt_apply hI, EReal.coe_mul]
    rfl
  rw [e, ofBits_eighth, ← EReal.coe_mul]
  unfold Inputs.weight Inputs.score
  by_cases hk : keep i.val (256 * c.val + j.val)
  · have hk' : keep i.val (row c j).val := hk
    rw [if_pos hk, if_pos hk']
    rfl
  · have hk' : ¬ keep i.val (row c j).val := hk
    rw [if_neg hk, if_neg hk']
    rfl

/-- Their sums over a row are the device's share of the row's sum. -/
theorem rowSums_apply (c : Dev nD) (b : Fin 2) (h : Fin 4) (z z' : Fin 1) (i : Fin 256) :
    rowSums (wAt m c b h) (ix3 z z' i) = (I.partDenom c b h i : EReal) := by
  pointwise [rowSums]
  simp only [Inputs.partDenom, coe_sum]
  exact Finset.sum_congr rfl fun j _ => wAt_apply hI c b h i j

/-- Their products with the values are the device's share of the context. -/
theorem context_apply (c : Dev nD) (b : Fin 2) (h : Fin 4) (z : Fin 1) (i : Fin 256) (d : Fin 64) :
    context (wAt m c b h) ((vM.access (rKV b h)).read (Elt Ideal) (vIn m c)) (ix3 z i d) = I.partContext c b i (col h d) := by
  have e1 : headOfCol (col h d) = h := Fin.ext (show (64 * h.val + d.val) / 64 = h.val by omega)
  have e2 : inHead (col h d) = d := Fin.ext (show (64 * h.val + d.val) % 64 = d.val by omega)
  pointwise [context, k0_pay15]
  simp only [Inputs.partContext, e1, e2]
  refine Finset.sum_congr rfl fun j _ => ?_
  rw [wAt_apply hI, read_v, hI.v]

/-! ## The accumulator -/

omit hI in
/-- A store through a rectangle leaves its element `j` at the rectangle's place `j`. -/
theorem acc_write (r : Rect S2x272x256) (f : Acc Ideal) (w : r.shape.Idx → Ideal .f32) (j : r.shape.Idx) {i : S2x272x256.Idx}
    (hi : i = r.emb j) : (accM.access r).write (Elt Ideal) f w Finset.univ i = w j := by
  subst hi
  exact congrFun (View.read_write_univ (v := accM.access r) f w) j

/-- After one head's stores, its row of row sums holds the device's share, -/
theorem headOf_sum (c : Dev nD) (b : Fin 2) (h : Fin 4) (f : Acc Ideal) (r : Fin 272) (e : Fin 256) (hr : r.val = 256 + h.val) :
    headOf m c b h f (ix3 b r e) = I.part c b r e := by
  have hp : I.part c b r e = (I.partDenom c b h e : EReal) := by
    unfold Inputs.part
    rw [dif_neg (by omega), dif_pos (by omega)]
    congr 2
    exact Fin.ext (by show r.val - 256 = h.val; omega)
  rw [hp, ← rowSums_apply hI c b h 0 0 e]
  unfold headOf
  rw [View.write_of_not_mem _ _ _ (fun hm => by
    have h1 : r.val < 256 := ((mem_rCtx b h _).mp ((mem_acc _ _).mp hm)).2.1
    omega)]
  refine acc_write (rSum b h) f (rowSums (wAt m c b h)) (ix3 (0 : Fin 1) (0 : Fin 1) e) ?_
  funext a
  apply Fin.ext
  fin_cases a
  · show b.val = b.val + 1 * 0; omega
  · show r.val = 256 + h.val + 1 * 0; omega
  · show e.val = 0 + 1 * e.val; omega

/-- and its columns of the context do; -/
theorem headOf_ctx (c : Dev nD) (b : Fin 2) (h : Fin 4) (f : Acc Ideal) (r : Fin 272) (e : Fin 256) (hr : r.val < 256) (he : e.val / 64 = h.val) :
    headOf m c b h f (ix3 b r e) = I.part c b r e := by
  have ee : e = col h (inHead e) := Fin.ext (show e.val = 64 * h.val + e.val % 64 by omega)
  have hp : I.part c b r e = I.partContext c b ⟨r.val, hr⟩ (col h (inHead e)) := by
    rw [← ee]
    unfold Inputs.part
    rw [dif_pos hr]
  rw [hp, ← context_apply hI c b h 0 ⟨r.val, hr⟩ (inHead e)]
  refine acc_write (rCtx b h) (sumOf m c b h f) (context (wAt m c b h) ((vM.access (rKV b h)).read (Elt Ideal) (vIn m c)))
    (ix3 (0 : Fin 1) (⟨r.val, hr⟩ : Fin 256) (inHead e)) ?_
  funext a
  apply Fin.ext
  fin_cases a
  · show b.val = b.val + 1 * 0; omega
  · show r.val = 0 + 1 * r.val; omega
  · show e.val = 64 * h.val + 1 * (e.val % 64); omega

omit hI in
/-- the rows past the row sums hold zeros. -/
theorem clearOf_on (c : Dev nD) (b : Fin 2) (f : Acc Ideal) (r : Fin 272) (e : Fin 256) (hr : 260 ≤ r.val) :
    clearOf b f (ix3 b r e) = I.part c b r e := by
  have hp : I.part c b r e = 0 := by
    unfold Inputs.part
    rw [dif_neg (by omega), dif_neg (by omega)]
  have hz : (k0_pay10 (F := Ideal)) (ix3 (0 : Fin 1) (⟨r.val - 260, by omega⟩ : Fin 12) e) = (0 : EReal) := by
    pointwise [k0_pay10]
  rw [hp, ← hz]
  refine acc_write (rZero b) f (k0_pay10 (F := Ideal)) (ix3 (0 : Fin 1) (⟨r.val - 260, by omega⟩ : Fin 12) e) ?_
  funext a
  apply Fin.ext
  fin_cases a
  · show b.val = b.val + 1 * 0; omega
  · show r.val = 260 + 1 * (r.val - 260); omega
  · show e.val = 0 + 1 * e.val; omega

/-- Each head's stores leave its share, or do not touch the element. -/
theorem headOf_or (c : Dev nD) (b : Fin 2) (h : Fin 4) (f : Acc Ideal) (r : Fin 272) (e : Fin 256)
    (hf : ¬ (r.val = 256 + h.val ∨ (r.val < 256 ∧ e.val / 64 = h.val)) → f (ix3 b r e) = I.part c b r e) :
    headOf m c b h f (ix3 b r e) = I.part c b r e := by
  by_cases h1 : r.val = 256 + h.val
  · exact headOf_sum hI c b h f r e h1
  by_cases h2 : r.val < 256 ∧ e.val / 64 = h.val
  · exact headOf_ctx hI c b h f r e h2.1 h2.2
  rw [headOf_off m c b h f (fun hm => h1 ((mem_rSum b h _).mp hm).2) (fun hm => h2 ((mem_rCtx b h _).mp hm).2)]
  exact hf (by tauto)

/-- After the four heads' stores a whole batch row holds the device's share. -/
theorem rowOf_apply (c : Dev nD) (b : Fin 2) (f : Acc Ideal) (r : Fin 272) (e : Fin 256) :
    rowOf m c b f (ix3 b r e) = I.part c b r e := by
  unfold rowOf
  refine headOf_or hI c b 3 _ r e fun h3 => headOf_or hI c b 2 _ r e fun h2 => headOf_or hI c b 1 _ r e fun h1 =>
    headOf_or hI c b 0 _ r e fun h0 => clearOf_on c b f r e ?_
  have := e.isLt
  simp only [Fin.val_zero, Fin.val_one, show ((2 : Fin 4).val) = 2 from rfl, show ((3 : Fin 4).val) = 3 from rfl] at h0 h1 h2 h3
  omega

/-- The accumulator holds the device's share. -/
theorem part_apply (c : Dev nD) (b : Fin 2) (r : Fin 272) (e : Fin 256) : part m c (ix3 b r e) = I.part c b r e := by
  unfold part
  match b with
  | 1 => exact rowOf_apply hI c 1 _ r e
  | 0 =>
    rw [rowOf_off m c 1 _ (show ((0 : Fin 2).val) ≠ (1 : Fin 2).val by decide)]
    exact rowOf_apply hI c 0 _ r e

/-! ## The four exchange steps -/

omit hI in
/-- An exchange step adds the partner's slice to the device's own. -/
theorem A_step (t s : Fin 4) (c : Dev nD) (r : Fin 136) (e : Fin 256) :
    A m (t.val + 1) s c (ix3 (0 : Fin 1) r e)
      = A m t.val s c (ix3 (0 : Fin 1) r e) + A m t.val s (partner (which t s) c) (ix3 (0 : Fin 1) r e) := by
  rw [A_succ]
  pointwise [added, k0_pay46, arrived, rounded, k0_pay27]

/-- The partner at step `t`, or the device itself. -/
def hop (t s : Fin 4) (far : Bool) (c : Dev nD) : Dev nD := bif far then partner (which t s) c else c

omit hI in
/-- The same as a sum over staying and hopping. -/
theorem A_hop (t s : Fin 4) (c : Dev nD) (r : Fin 136) (e : Fin 256) :
    A m (t.val + 1) s c (ix3 (0 : Fin 1) r e) = ∑ far, A m t.val s (hop t s far c) (ix3 (0 : Fin 1) r e) := by
  rw [A_step, Fintype.sum_bool, add_comm]
  rfl

omit hI in
/-- From any device, the sixteen ways of hopping or not at the four steps reach every device once. -/
theorem hops (s : Fin 4) (c : Dev nD) :
    Function.Bijective fun p : Bool × Bool × Bool × Bool => hop 0 s p.2.2.2 (hop 1 s p.2.2.1 (hop 2 s p.2.1 (hop 3 s p.1 c))) := by
  have h : ∀ (s : Fin 4) (c : Dev nD), Function.Injective fun p : Bool × Bool × Bool × Bool =>
      hop 0 s p.2.2.2 (hop 1 s p.2.2.1 (hop 2 s p.2.1 (hop 3 s p.1 c))) := by
    unfold Function.Injective
    decide +kernel
  exact (Fintype.bijective_iff_injective_and_card _).mpr ⟨h s c, by decide⟩

omit hI in
/-- After the four steps a slice holds the sum over all devices. -/
theorem A_four (s : Fin 4) (c : Dev nD) (r : Fin 136) (e : Fin 256) :
    A m 4 s c (ix3 (0 : Fin 1) r e) = ∑ c', sl s (part m c') (ix3 (0 : Fin 1) r e) := by
  refine (A_hop 3 s c r e).trans ?_
  have h2 : ∀ c, A m 3 s c (ix3 (0 : Fin 1) r e) = _ := fun c => A_hop 2 s c r e
  have h1 : ∀ c, A m 2 s c (ix3 (0 : Fin 1) r e) = _ := fun c => A_hop 1 s c r e
  have h0 : ∀ c, A m 1 s c (ix3 (0 : Fin 1) r e) = _ := fun c => A_hop 0 s c r e
  show ∑ far, A m 3 s (hop 3 s far c) (ix3 (0 : Fin 1) r e) = _
  simp only [h2]
  show ∑ f3, ∑ f2, A m 2 s (hop 2 s f2 (hop 3 s f3 c)) (ix3 (0 : Fin 1) r e) = _
  simp only [h1]
  show ∑ f3, ∑ f2, ∑ f1, A m 1 s (hop 1 s f1 (hop 2 s f2 (hop 3 s f3 c))) (ix3 (0 : Fin 1) r e) = _
  simp only [h0]
  rw [← (hops s c).sum_comp fun c' => sl s (part m c') (ix3 (0 : Fin 1) r e), Fintype.sum_prod_type]
  simp only [Fintype.sum_prod_type]
  rfl

/-- After the four steps the accumulator holds the whole. -/
theorem total_apply (c : Dev nD) (b : Fin 2) (r : Fin 272) (e : Fin 256) : total m c (ix3 b r e) = I.whole b r e := by
  have hs : ∀ c', sl (⟨2 * b.val + r.val / 136, by omega⟩ : Fin 4) (part m c') (ix3 (0 : Fin 1) (⟨r.val % 136, Nat.mod_lt _ (by decide)⟩ : Fin 136) e)
      = part m c' (ix3 b r e) := fun c' => congrFun (joined_sl (part m c')) (ix3 b r e)
  refine (A_four (⟨2 * b.val + r.val / 136, by omega⟩ : Fin 4) c (⟨r.val % 136, Nat.mod_lt _ (by decide)⟩ : Fin 136) e).trans ?_
  simp only [hs, part_apply hI]
  exact I.sum_part b r e

end Cert.Attn

end
-- ==== Proof.Result.lean ====
/-
# The kernel's result

Where the queries' and the keys' inputs are real numbers, every device's result is `I.result`.
-/
module

public import proofs.«01_k».proof.Proof.Blocks
public import proofs.«01_k».proof.Proof.Run
public import Idealize.ShloMosaic.Lib.Pipeline.ValueKit

@[expose] public section

set_option maxRecDepth 16384

noncomputable section

namespace Cert.Attn

open Cert.KernelIdeal Cert.KernelIdeal.Gen
open Idealize.ShloMosaic
open Idealize.ShloMosaic.TcCoe
open Idealize.SL Idealize.SL.Sem
open scoped BigOperators

variable {m : (ℓ : Loc nD τ sig) → Buf (Elt Ideal) ℓ} {I : Inputs} (hI : Holds m I)

include hI

/-- What the last step loads of the summed context, -/
theorem read_all (c : Dev nD) (b : Fin 2) (z : Fin 1) (i e : Fin 256) :
    (accM.access (rAll b)).read (Elt Ideal) (total m c) (ix3 z i e) = I.context b i e := by
  have h := total_apply hI c b (⟨i.val, by omega⟩ : Fin 272) e
  unfold Inputs.whole at h
  rw [dif_pos i.isLt] at h
  rw [← h]
  show total m c _ = total m c _
  congr 1
  funext a
  apply Fin.ext
  fin_cases a
  · show b.val + 1 * z.val = b.val; omega
  · show 0 + 1 * i.val = i.val; omega
  · show 0 + 1 * e.val = e.val; omega

/-- and of the row sums. -/
theorem read_sums (c : Dev nD) (b : Fin 2) (z : Fin 1) (h : Fin 4) (i : Fin 256) :
    (accM.access (rSums b)).read (Elt Ideal) (total m c) (ix3 z h i) = (I.denom b h i : EReal) := by
  have ht := total_apply hI c b (⟨256 + h.val, by omega⟩ : Fin 272) i
  unfold Inputs.whole at ht
  rw [dif_neg (by show ¬ 256 + h.val < 256; omega), dif_pos (by show 256 + h.val < 260; omega)] at ht
  have hh : (⟨256 + h.val - 256, by omega⟩ : Fin 4) = h := Fin.ext (by show 256 + h.val - 256 = h.val; omega)
  refine Eq.trans ?_ (ht.trans (congrArg (fun h => ((I.denom b h i : ℝ) : EReal)) hh))
  show total m c _ = total m c _
  congr 1
  funext a
  apply Fin.ext
  fin_cases a
  · show b.val + 1 * z.val = b.val; omega
  · show 256 + 1 * h.val = 256 + h.val; omega
  · show 0 + 1 * i.val = i.val; omega

/-- What it stores for a batch row is `I.result`. -/
theorem outRow_apply (c : Dev nD) (b : Fin 2) (z : Fin 1) (i : Fin 256) (o : Fin 512) :
    outRow m c b (total m c) (ix3 z i o) = I.result b i o := by
  pointwise [outRow, projected, k0_pay72]
  simp only [Inputs.result]
  refine Finset.sum_congr rfl fun e _ => ?_
  rw [read_wo, hI.wo, read_all hI, read_sums hI]
  have hd : I.denom b (headOfCol e) i ≠ 0 := (I.denom_pos b (headOfCol e) i).ne'
  exact congrArg (fun z => I.context b i e * z * I.wo e o) (div_real 1 _ hd)

omit hI in
/-- A store through a rectangle leaves its element `j` at the rectangle's place `j`. -/
theorem out_write (r : Rect S2x256x512) (f : (cc0_stg5_0 : Ref sig .tc).ty.Contents (Elt Ideal)) (w : r.shape.Idx → Ideal .f32) (j : r.shape.Idx)
    {i : S2x256x512.Idx} (hi : i = r.emb j) : (outM.access r).write (Elt Ideal) f w Finset.univ i = w j := by
  subst hi
  exact congrFun (View.read_write_univ (v := outM.access r) f w) j

/-- After the store the batch row holds `I.result`, -/
theorem storeRow_apply (c : Dev nD) (b : Fin 2) (o : (cc0_stg5_0 : Ref sig .tc).ty.Contents (Elt Ideal)) (i : Fin 256) (e : Fin 512) :
    storeRow m c b (total m c) o (ix3 b i e) = I.result b i e := by
  rw [← outRow_apply hI c b 0 i e]
  refine out_write (rX b) o (outRow m c b (total m c)) (ix3 (0 : Fin 1) i e) ?_
  funext a
  apply Fin.ext
  fin_cases a
  · show b.val = b.val + 1 * 0; omega
  · show i.val = 0 + 1 * i.val; omega
  · show e.val = 0 + 1 * e.val; omega

/-- and after both stores the whole staging buffer does. -/
theorem outAt_apply (c : Dev nD) (b : Fin 2) (i : Fin 256) (o : Fin 512) :
    outAt m c (ix3 b i o) = I.result b i o := by
  unfold outAt
  match b with
  | 1 => exact storeRow_apply hI c 1 _ i o
  | 0 =>
    refine Eq.trans ?_ (storeRow_apply hI c 0 (fun _ => FloatOps.ofBits (F := Ideal) .f32 0x00000000#32) i o)
    exact View.write_of_not_mem _ _ _ fun hm => absurd ((mem_out 1 _).mp hm) (show ((0 : Fin 2).val) ≠ (1 : Fin 2).val by decide)

omit hI in
/-- The result array ends as what the kernel left in the staging buffer. -/
theorem finalA_eq (m : (ℓ : Loc nD τ sig) → Buf (Elt Ideal) ℓ) (ρ : Dev nD → PrngReg) (c : Dev nD) : finalA m ρ c (5 : Fin 6) = outAt m c := by
  refine (dats m ρ 0 c).arrAt_eq_of_covers (5 : Fin 6) (outAt m c) (by decide +kernel) fun t hf y => ?_
  blk_simp
  show outAt m c _ = outAt m c _
  congr 1
  funext a
  apply Fin.ext
  fin_cases a
  · show (y 0).val = 0 + 1 * (y 0).val; omega
  · show (y 1).val = 0 + 1 * (y 1).val; omega
  · show (y 2).val = 0 + 1 * (y 2).val; omega

/-- The result array ends as `I.result`. -/
theorem finalA_apply (ρ : Dev nD → PrngReg) (c : Dev nD) (b : Fin 2) (i : Fin 256) (o : Fin 512) :
    finalA m ρ c (5 : Fin 6) (ix3 b i o) = I.result b i o := by
  rw [finalA_eq]
  exact outAt_apply hI c b i o

end Cert.Attn

end
-- ==== Proof.Algebraic.lean ====
/-
# The kernel computes what the reference computes

The inputs are read off the reference's memory: every element of its keys stands in the block of one of the kernel's devices, where
the precondition makes it a real number.
-/
module

public import proofs.«01_k».proof.Proof.Finite
public import proofs.«01_k».proof.Proof.Frames
public import proofs.«01_k».proof.Proof.Reference
public import proofs.«01_k».proof.Proof.Result

@[expose] public section

noncomputable section

namespace Cert.Attn

open Idealize.ShloMosaic Idealize.ShloMosaic.TcCoe Idealize.SL.Sem

/-- The shape of all the keys (or values), -/
abbrev AllKeys : Shape := ⟨4, ![2, 4096, 4, 64]⟩
/-- and of a device's block of them. -/
abbrev BlockKeys : Shape := ⟨4, ![2, 256, 4, 64]⟩

/-- Device `c`'s block at row `j` is the whole array at row `row c j`. -/
theorem block_row (u : AllKeys.Idx → EReal) (c : Fin 16) (b : Fin 2) (j : Fin 256) (h : Fin 4) (d : Fin 64) :
    Layout.block BlockKeys AllKeys 1 16 c u (by decide) (ix4 b j h d) = u (ix4 b (row c j) h d) := by
  rw [Layout.block_apply]
  congr 1
  funext a
  apply Fin.ext
  rw [Layout.Tiles.idx_val]
  fin_cases a
  · rfl
  · show c.val * 256 + j.val = 256 * c.val + j.val; omega
  · rfl
  · rfl

/-- An array whose sixteen blocks hold real numbers holds real numbers. -/
theorem real_of_blocks (u : AllKeys.Idx → EReal)
    (hu : ∀ (c : Fin 16) i, ((EReal.toReal (Layout.block BlockKeys AllKeys 1 16 c u (by decide) i) : ℝ) : EReal) = Layout.block BlockKeys AllKeys 1 16 c u (by decide) i)
    (b : Fin 2) (k : Fin 4096) (h : Fin 4) (d : Fin 64) : ((EReal.toReal (u (ix4 b k h d)) : ℝ) : EReal) = u (ix4 b k h d) := by
  have e := hu ⟨k.val / 256, by omega⟩ (ix4 b (⟨k.val % 256, by omega⟩ : Fin 256) h d)
  rw [block_row] at e
  have hk : row ⟨k.val / 256, by omega⟩ ⟨k.val % 256, by omega⟩ = k := Fin.ext (show 256 * (k.val / 256) + k.val % 256 = k.val by omega)
  rwa [hk] at e

/-- The inputs that five arrays hold: of the first three the real numbers, the other two as they are. -/
def inputsOf (x : (⟨3, ![2, 256, 512]⟩ : Shape).Idx → EReal) (wq : (⟨2, ![512, 256]⟩ : Shape).Idx → EReal) (k v : AllKeys.Idx → EReal)
    (wo : (⟨2, ![256, 512]⟩ : Shape).Idx → EReal) : Inputs where
  x b i f := EReal.toReal (x (ix3 b i f))
  wq f e := EReal.toReal (wq (ix2 f e))
  k b j h d := EReal.toReal (k (ix4 b j h d))
  v b j h d := v (ix4 b j h d)
  wo e o := wo (ix2 e o)

variable [Cert.Pre_finite_KernelIdeal.Facts]

/-- From finite activations, query weights and keys every device of the kernel ends with the reference's result: both are `I.result`. -/
theorem algebraic : Cert.algebraic_KernelIdeal_ReferenceIdeal_pre_finite_KernelIdeal := by
  intro m g m' g' hpre hin
  have hreal := fun c => real_of_finite (hpre c)
  obtain ⟨e0, e1, -⟩ := hin 0
  obtain ⟨r0, r1, -⟩ := hreal 0
  rw [e0] at r0
  rw [e1] at r1
  have r2 := real_of_blocks (m' (((0 : Dev Cert.ReferenceIdeal.nD).tc : Thread Cert.ReferenceIdeal.nD Cert.ReferenceIdeal.τ).loc Cert.ReferenceIdeal.main_arg2))
    fun c i => by have := (hreal c).2.2 i; rw [(hin c).2.2.1] at this; exact this
  let I := inputsOf (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))
  have hR : ∀ c, RefHolds m' c I := fun c => by
    obtain rfl : c = 0 := Subsingleton.elim _ _
    exact ⟨fun b i f => (r0 (ix3 b i f)).symm, fun f e => (r1 (ix2 f e)).symm, fun b k h d => (r2 b k h d).symm,
      fun _ _ _ _ => rfl, fun _ _ => rfl⟩
  have hK : Holds m I := ⟨fun c b i f => (congrFun (hin c).1 _).trans ((hR 0).x b i f),
    fun c f e => (congrFun (hin c).2.1 _).trans ((hR 0).wq f e),
    fun c b j h d => (congrFun (hin c).2.2.1 _).trans ((block_row _ c b j h d).trans ((hR 0).k b (row c j) h d)),
    fun c b j h d => (congrFun (hin c).2.2.2.1 _).trans ((block_row _ c b j h d).trans ((hR 0).v b (row c j) h d)),
    fun c e o => (congrFun (hin c).2.2.2.2 _).trans ((hR 0).wo e o)⟩
  refine ⟨resultArray I, ?_, (θ_run Cert.ReferenceIdeal.defs _ _).mono (fun r h => h 0) (run_reference hR g')⟩
  refine (θ_run Cert.KernelIdeal.defs _ _).mono (fun r h c => ⟨(arrays_of_QC h.1 c).1.trans (funext fun j => ?_), (arrays_of_QC h.1 c).2⟩)
    (run_main (F := Ideal) m g)
  change Cert.KernelIdeal.S2x256x512.Idx at j
  obtain ⟨b, i, o, rfl⟩ : ∃ (b : Fin 2) (i : Fin 256) (o : Fin 512), j = ix3 b i o := ⟨j 0, j 1, j 2, eq_ix3 j⟩
  exact finalA_apply hK g c b i o

end Cert.Attn

end
-- ==== Proof.lean ====
/-
# The claim

The frames come from the runs (`Proof/Frames.lean`) and hold with a precondition because they hold without; no operation was
rewritten, so `preserves` has nothing to show; `Proof/Algebraic.lean` proves the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Attn.frame_kernel, Cert.Attn.frame_ideal, fun m g _ => Cert.Attn.frame_ideal m g trivial,
  Cert.Attn.frame_reference, fun m g _ => Cert.Attn.frame_reference m g trivial, trivial, Cert.Attn.algebraic⟩

end Cert.Proof

end
